-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gain_in_range [hPre_gain_in_range : Cert.Pre_gain_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_gain_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gain_in_range [hPre_gain_in_range : Cert.Pre_gain_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gain_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_gain_in_range [hKernelIdeal : Cert.KernelIdeal.Facts] [hPre_gain_in_range : Cert.Pre_gain_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gain_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_gain_in_range [hReferenceIdeal : Cert.ReferenceIdeal.Facts] [hPre_gain_in_range : Cert.Pre_gain_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gain_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.PackStatement Cert.KernelIdeal.S256x128
  ∧ IdealRules.bf16_pair.Statement Cert.KernelIdeal.S256x2x128 Cert.KernelIdeal.S256x1x128

def algebraic_KernelIdeal_ReferenceIdeal_pre_gain_in_range [hKernelIdeal : Cert.KernelIdeal.Facts] [hReferenceIdeal : Cert.ReferenceIdeal.Facts] [hPre_gain_in_range : Cert.Pre_gain_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gain_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_gain_in_range : Cert.Pre_gain_in_range.Facts),
    quiescent_Kernel (hKernel := hKernel)
    ∧ quiescent_KernelIdeal (hKernelIdeal := hKernelIdeal)
    ∧ quiescent_KernelIdeal_pre_gain_in_range (hKernelIdeal := hKernelIdeal) (hPre_gain_in_range := hPre_gain_in_range)
    ∧ quiescent_ReferenceIdeal (hReferenceIdeal := hReferenceIdeal)
    ∧ quiescent_ReferenceIdeal_pre_gain_in_range (hReferenceIdeal := hReferenceIdeal) (hPre_gain_in_range := hPre_gain_in_range)
    ∧ preserves_Kernel_KernelIdeal
    ∧ algebraic_KernelIdeal_ReferenceIdeal_pre_gain_in_range (hKernelIdeal := hKernelIdeal) (hReferenceIdeal := hReferenceIdeal) (hPre_gain_in_range := hPre_gain_in_range)
-- ==== Pre_gain_in_range.lean ====
abbrev S256x1x4096 : Shape := ⟨3, ![256, 1, 4096]⟩
abbrev S4096 : Shape := ⟨1, ![4096]⟩
abbrev S4096x2304 : Shape := ⟨2, ![4096, 2304]⟩
abbrev S2304 : Shape := ⟨1, ![2304]⟩
abbrev S256x1 : Shape := ⟨2, ![256, 1]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : FVec F S256x1x4096 .bf16) (main_arg1 : FVec F S4096 .f32) (main_arg2 : FVec F S4096x2304 .fp8e4m3) (main_arg3 : FVec F S2304 .f32) (main_arg4 : IVec S256x1 32) : IVec S4096 1 :=
  let main_v0 : FVec F S4096 .f32 := Host.absf main_arg1
  let main_cst : FVec F S_ .f32 := constant S_ .f32 0x7F7FFFFF#32
  let main_v1 : FVec F S4096 .f32 := broadcastInDim S4096 ![] bcast_S_S4096 main_cst
  let main_v2 : IVec S4096 1 := cmpf .ole main_v0 main_v1
  main_v2
-- ==== Kernel.lean ====
abbrev S256x1x4096 : Shape := ⟨3, ![256, 1, 4096]⟩
abbrev S4096 : Shape := ⟨1, ![4096]⟩
abbrev S4096x2304 : Shape := ⟨2, ![4096, 2304]⟩
abbrev S2304 : Shape := ⟨1, ![2304]⟩
abbrev S256x1 : Shape := ⟨2, ![256, 1]⟩
abbrev S1x128 : Shape := ⟨2, ![1, 128]⟩
abbrev S256x4096 : Shape := ⟨2, ![256, 4096]⟩
abbrev S1x4096 : Shape := ⟨2, ![1, 4096]⟩
abbrev S1x2304 : Shape := ⟨2, ![1, 2304]⟩
abbrev S1x256 : Shape := ⟨2, ![1, 256]⟩
abbrev S256x16x128 : Shape := ⟨3, ![256, 16, 128]⟩
abbrev S256x128 : Shape := ⟨2, ![256, 128]⟩
abbrev S9x4096x256 : Shape := ⟨3, ![9, 4096, 256]⟩
abbrev S2 : Shape := ⟨1, ![2]⟩
abbrev S4 : Shape := ⟨1, ![4]⟩
abbrev S9 : Shape := ⟨1, ![9]⟩
abbrev S1 : Shape := ⟨1, ![1]⟩
abbrev S_ : Shape := ⟨0, ![]⟩
abbrev S128x4096 : Shape := ⟨2, ![128, 4096]⟩
abbrev S1x4096x256 : Shape := ⟨3, ![1, 4096, 256]⟩
abbrev S4096x256 : Shape := ⟨2, ![4096, 256]⟩
abbrev S128x256 : Shape := ⟨2, ![128, 256]⟩
abbrev S128 : Shape := ⟨1, ![128]⟩
abbrev S128x1 : Shape := ⟨2, ![128, 1]⟩
abbrev S128x128 : Shape := ⟨2, ![128, 128]⟩
abbrev S256x256 : Shape := ⟨2, ![256, 256]⟩
abbrev S256x8x128 : Shape := ⟨3, ![256, 8, 128]⟩
abbrev S2048x128 : Shape := ⟨2, ![2048, 128]⟩
abbrev S256x2x128 : Shape := ⟨3, ![256, 2, 128]⟩
abbrev S256x1x128 : Shape := ⟨3, ![256, 1, 128]⟩

abbrev nBuf : Space → Nat
  | .hbm => 15
  | .vmem => 14
  | .smem => 0
  | _ => 0

abbrev bufTy : (tb : Table) → Fin (tcTables nBuf tb) → BufTy
  | .hbm, ⟨0, _⟩ => ⟨S256x1x4096, .bf16⟩
  | .hbm, ⟨1, _⟩ => ⟨S4096, .f32⟩
  | .hbm, ⟨2, _⟩ => ⟨S4096x2304, .fp8e4m3⟩
  | .hbm, ⟨3, _⟩ => ⟨S2304, .f32⟩
  | .hbm, ⟨4, _⟩ => ⟨S256x1, .i32⟩
  | .hbm, ⟨5, _⟩ => ⟨S1x128, .f32⟩
  | .hbm, ⟨6, _⟩ => ⟨S256x4096, .bf16⟩
  | .hbm, ⟨7, _⟩ => ⟨S1x4096, .f32⟩
  | .hbm, ⟨8, _⟩ => ⟨S1x2304, .f32⟩
  | .hbm, ⟨9, _⟩ => ⟨S1x256, .i32⟩
  | .hbm, ⟨10, _⟩ => ⟨S256x16x128, .bf16⟩
  | .hbm, ⟨11, _⟩ => ⟨S256x128, .bf16⟩
  | .hbm, ⟨12, _⟩ => ⟨S256x128, .bf16⟩
  | .hbm, ⟨13, _⟩ => ⟨S256x4096, .fp8e4m3⟩
  | .hbm, ⟨14, _⟩ => ⟨S1x256, .f32⟩
  | .local _ .vmem, ⟨0, _⟩ => ⟨S256x16x128, .bf16⟩
  | .local _ .vmem, ⟨1, _⟩ => ⟨S256x128, .bf16⟩
  | .local _ .vmem, ⟨2, _⟩ => ⟨S256x128, .bf16⟩
  | .local _ .vmem, ⟨3, _⟩ => ⟨S256x4096, .fp8e4m3⟩
  | .local _ .vmem, ⟨4, _⟩ => ⟨S1x256, .f32⟩
  | .local _ .vmem, ⟨5, _⟩ => ⟨S256x4096, .bf16⟩
  | .local _ .vmem, ⟨6, _⟩ => ⟨S1x4096, .f32⟩
  | .local _ .vmem, ⟨7, _⟩ => ⟨S9x4096x256, .fp8e4m3⟩
  | .local _ .vmem, ⟨8, _⟩ => ⟨S1x2304, .f32⟩
  | .local _ .vmem, ⟨9, _⟩ => ⟨S1x256, .i32⟩
  | .local _ .vmem, ⟨10, _⟩ => ⟨S1x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S256x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [BitOps F]

abbrev grid0 : Pipeline.Grid := .none

abbrev stage0_0 : Fin 1 → Memref sig .tc .vmem S256x16x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F]
-- ==== ReferenceIdeal.lean ====
abbrev S256x1x4096 : Shape := ⟨3, ![256, 1, 4096]⟩
abbrev S4096 : Shape := ⟨1, ![4096]⟩
abbrev S4096x2304 : Shape := ⟨2, ![4096, 2304]⟩
abbrev S2304 : Shape := ⟨1, ![2304]⟩
abbrev S256x1 : Shape := ⟨2, ![256, 1]⟩
abbrev S1x64 : Shape := ⟨2, ![1, 64]⟩
abbrev S256x4096 : Shape := ⟨2, ![256, 4096]⟩
abbrev S1x4096 : Shape := ⟨2, ![1, 4096]⟩
abbrev S1x2304 : Shape := ⟨2, ![1, 2304]⟩
abbrev S256x16x128 : Shape := ⟨3, ![256, 16, 128]⟩
abbrev S256x128 : Shape := ⟨2, ![256, 128]⟩
abbrev S1x256 : Shape := ⟨2, ![1, 256]⟩
abbrev S256 : Shape := ⟨1, ![256]⟩
abbrev S256x2304 : Shape := ⟨2, ![256, 2304]⟩
abbrev S256x2048 : Shape := ⟨2, ![256, 2048]⟩
abbrev S256x64 : Shape := ⟨2, ![256, 64]⟩
abbrev S256x1x64 : Shape := ⟨3, ![256, 1, 64]⟩
abbrev S256x16x64 : Shape := ⟨3, ![256, 16, 64]⟩

abbrev nBuf : Space → Nat
  | .hbm => 14
  | .vmem => 11
  | .smem => 0
  | _ => 0

abbrev bufTy : (tb : Table) → Fin (tcTables nBuf tb) → BufTy
  | .hbm, ⟨0, _⟩ => ⟨S256x1x4096, .bf16⟩
  | .hbm, ⟨1, _⟩ => ⟨S4096, .f32⟩
  | .hbm, ⟨2, _⟩ => ⟨S4096x2304, .fp8e4m3⟩
  | .hbm, ⟨3, _⟩ => ⟨S2304, .f32⟩
  | .hbm, ⟨4, _⟩ => ⟨S256x1, .i32⟩
  | .hbm, ⟨5, _⟩ => ⟨S1x64, .f32⟩
  | .hbm, ⟨6, _⟩ => ⟨S256x4096, .bf16⟩
  | .hbm, ⟨7, _⟩ => ⟨S1x4096, .f32⟩
  | .hbm, ⟨8, _⟩ => ⟨S1x2304, .f32⟩
  | .hbm, ⟨9, _⟩ => ⟨S256x16x128, .bf16⟩
  | .hbm, ⟨10, _⟩ => ⟨S256x128, .bf16⟩
  | .hbm, ⟨11, _⟩ => ⟨S256x128, .bf16⟩
  | .hbm, ⟨12, _⟩ => ⟨S256x4096, .fp8e4m3⟩
  | .hbm, ⟨13, _⟩ => ⟨S1x256, .f32⟩
  | .local _ .vmem, ⟨0, _⟩ => ⟨S256x4096, .bf16⟩
  | .local _ .vmem, ⟨1, _⟩ => ⟨S1x4096, .f32⟩
  | .local _ .vmem, ⟨2, _⟩ => ⟨S4096x2304, .fp8e4m3⟩
  | .local _ .vmem, ⟨3, _⟩ => ⟨S1x2304, .f32⟩
  | .local _ .vmem, ⟨4, _⟩ => ⟨S256x1, .i32⟩
  | .local _ .vmem, ⟨5, _⟩ => ⟨S1x64, .f32⟩
  | .local _ .vmem, ⟨6, _⟩ => ⟨S256x16x128, .bf16⟩
  | .local _ .vmem, ⟨7, _⟩ => ⟨S256x128, .bf16⟩
  | .local _ .vmem, ⟨8, _⟩ => ⟨S256x128, .bf16⟩
  | .local _ .vmem, ⟨9, _⟩ => ⟨S256x4096, .fp8e4m3⟩
  | .local _ .vmem, ⟨10, _⟩ => ⟨S1x256, .f32⟩
  | _, _ => ⟨S256x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2304 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x16x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x4096 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KernelRuns.lean ====
/- What the runs of the printed kernel's body are stated over: @main up to the launch, the staging and
   scratch memrefs by name, the kernel's own semaphore cells, the operands left in HBM, and the invariant
   conjunct by conjunct. -/
module

public import proofs.«01_k».proof.Proof.Gen.Kernel.Frame
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-- @main up to the region: the host operations, then the region. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The kernel body on any staging memrefs: a subtype the run finds -/

/-- Each window's current staging memref at point `t`, spelled as the pipeline passes it (`bodyAt0`), and its wholeness. -/
abbrev ms0_0 (t : Fin cfg0.N) : Memref sig .tc .vmem S256x16x128 .bf16 := win0_0.stage (cfg0.slots t 0)
/-- The buffer of result 0 is a whole array. -/
abbrev hs0_0 (t : Fin cfg0.N) : (ms0_0 t).IsWhole := hstage0_0 0
/-- The buffer of result 1. -/
abbrev ms0_1 (t : Fin cfg0.N) : Memref sig .tc .vmem S256x128 .bf16 := win0_1.stage (cfg0.slots t 1)
/-- The buffer of result 1 is a whole array. -/
abbrev hs0_1 (t : Fin cfg0.N) : (ms0_1 t).IsWhole := hstage0_1 0
/-- The buffer of result 2. -/
abbrev ms0_2 (t : Fin cfg0.N) : Memref sig .tc .vmem S256x128 .bf16 := win0_2.stage (cfg0.slots t 2)
/-- The buffer of result 2 is a whole array. -/
abbrev hs0_2 (t : Fin cfg0.N) : (ms0_2 t).IsWhole := hstage0_2 0
/-- The buffer of result 3. -/
abbrev ms0_3 (t : Fin cfg0.N) : Memref sig .tc .vmem S256x4096 .fp8e4m3 := win0_3.stage (cfg0.slots t 3)
/-- The buffer of result 3 is a whole array. -/
abbrev hs0_3 (t : Fin cfg0.N) : (ms0_3 t).IsWhole := hstage0_3 0
/-- The buffer of result 4. -/
abbrev ms0_4 (t : Fin cfg0.N) : Memref sig .tc .vmem S1x256 .f32 := win0_4.stage (cfg0.slots t 4)
/-- The buffer of result 4 is a whole array. -/
abbrev hs0_4 (t : Fin cfg0.N) : (ms0_4 t).IsWhole := hstage0_4 0
/-- The scratch operands: whole scoped buffers of the kernel's own, passed beside the windows. -/
abbrev scM0_0 : Memref sig .tc .vmem S256x4096 .bf16 := Memref.whole cc0_scratch0
/-- Scratch buffer 1. -/
abbrev scM0_1 : Memref sig .tc .vmem S1x4096 .f32 := Memref.whole cc0_scratch1
/-- Scratch buffer 2. -/
abbrev scM0_2 : Memref sig .tc .vmem S9x4096x256 .fp8e4m3 := Memref.whole cc0_scratch2
/-- Scratch buffer 3. -/
abbrev scM0_3 : Memref sig .tc .vmem S1x2304 .f32 := Memref.whole cc0_scratch3
/-- Scratch buffer 4. -/
abbrev scM0_4 : Memref sig .tc .vmem S1x256 .i32 := Memref.whole cc0_scratch4
/-- Scratch buffer 5. -/
abbrev scM0_5 : Memref sig .tc .vmem S1x128 .f32 := Memref.whole cc0_scratch5
/-- Scratch buffer 6. -/
abbrev scM0_6 : Memref sig .tc .vmem S256x128 .f32 := Memref.whole cc0_scratch6
/-- Scratch buffer 7. -/
abbrev scM0_7 : Memref sig .tc .vmem S256x128 .f32 := Memref.whole cc0_scratch7
/-- Scratch buffer 8. -/
abbrev scM0_8 : Memref sig .tc .vmem S256x128 .f32 := Memref.whole cc0_scratch8
/-- The operands left in HBM that the body copies into scratch itself, whole. -/
abbrev hbM0_0 : Memref sig .tc .hbm S256x4096 .bf16 := Memref.whole main_v0
/-- Operand array 1. -/
abbrev hbM0_1 : Memref sig .tc .hbm S1x4096 .f32 := Memref.whole main_v1
/-- Operand array 2. -/
abbrev hbM0_2 : Memref sig .tc .hbm S4096x2304 .fp8e4m3 := Memref.whole main_arg2
/-- Operand array 3. -/
abbrev hbM0_3 : Memref sig .tc .hbm S1x2304 .f32 := Memref.whole main_v2
/-- Operand array 4. -/
abbrev hbM0_4 : Memref sig .tc .hbm S1x256 .i32 := Memref.whole main_v3
/-- Operand array 5. -/
abbrev hbM0_5 : Memref sig .tc .hbm S1x128 .f32 := Memref.whole main_cst
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
/-- Ownership of an operand array with its contents. -/
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 15 → SemLoc sig := fun j => (![SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19] : Fin 15 → SemLoc sig) j
/-- The kernel's own semaphores are distinct from the launch's. -/
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0) := by
  rw [Pipeline.ownSems0_eq_of_list c osem0 [0, 1, 2, 3, 4, 5, 6, 7, 8, 9, 10, 11, 12, 13, 14] (by decide) (by decide)]; rfl
/-- The HBM operands the body moves, as references: unscoped, no window's array (`Pipeline.restRefs`). -/
def H0 : Finset (Ref sig .tc) := {main_v0, main_v1, main_arg2, main_v2, main_v3, main_cst}
/-- The operand arrays are among those the launch leaves alone. -/
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v0) ∗ hbPt0 c hbM0_1 (V m c main_v1) ∗ hbPt0 c hbM0_2 (V m c main_arg2) ∗ hbPt0 c hbM0_3 (V m c main_v2) ∗ hbPt0 c hbM0_4 (V m c main_v3) ∗ hbPt0 c hbM0_5 (V m c main_cst)) := by
  rw [BI.bigSep_eq_bigSepL_of_eq [main_v0, main_v1, main_arg2, main_v2, main_v3, main_cst] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r) ∗ iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0) ∗ iprop(hbPt0 c hbM0_0 (V m c main_v0) ∗ hbPt0 c hbM0_1 (V m c main_v1) ∗ hbPt0 c hbM0_2 (V m c main_arg2) ∗ hbPt0 c hbM0_3 (V m c main_v2) ∗ hbPt0 c hbM0_4 (V m c main_v3) ∗ hbPt0 c hbM0_5 (V m c main_cst))) := by
  rw [Pipeline.ΦD_eq, scopedRest0_eq, ownSems00_eq, hbmPts0_eq]; simp only [scM0_0, scM0_1, scM0_2, scM0_3, scM0_4, scM0_5, scM0_6, scM0_7, scM0_8, owns_whole]; try rfl

end Cert.Kernel.Run

end
-- ==== Proof.KernelRun.lean ====
/- The run of the printed kernel's body, with nothing said of its outputs. -/
module

public import proofs.«01_k».proof.Proof.KernelRuns

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1364000 in set_option sl_exec.dmaWindow true in set_option sl_exec.dmaWindowSet true in
/-- The body's triple: on whole staging memrefs — the inputs' at their contents,
    the FORGOTTEN outputs' (0, 1, 2, 3, 4) at anything, handed back at some contents nothing names —
    the body runs to the continuation holding the inputs' as they were, the scratch at some contents: the printed functions are their skeletons (`Gen.*_eq_skeleton`),
    which `sl_exec` runs (Lib/Exec.lean). -/
theorem kernelRun0_A (c : Dev nD) (arg6 : Memref sig .tc .vmem S256x16x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x4096 .fp8e4m3) (harg9 : arg9.IsWhole) (arg10 : Memref sig .tc .vmem S1x256 .f32) (harg10 : arg10.IsWhole) (arg11 : Memref sig .tc .vmem S256x4096 .bf16) (harg11 : arg11.IsWhole) (arg12 : Memref sig .tc .vmem S1x4096 .f32) (harg12 : arg12.IsWhole) (arg13 : Memref sig .tc .vmem S9x4096x256 .fp8e4m3) (harg13 : arg13.IsWhole) (arg14 : Memref sig .tc .vmem S1x2304 .f32) (harg14 : arg14.IsWhole) (arg15 : Memref sig .tc .vmem S1x256 .i32) (harg15 : arg15.IsWhole) (arg16 : Memref sig .tc .vmem S1x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole)
     (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) :
      ∀ (W : Waits sig Unit) (K : PUnit → sProp 𝕄),
        iprop((∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ owes (c : Thread nD τ) 0 W
            ∗ (iprop((∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ (∃ W', owes (c : Thread nD τ) 0 W')) -∗ K ⟨⟩))
          ⊢ wp frame (wpE (defs₀ (F := F)) Variants.none c none) Set.univ (cc0__body (Memref.whole main_v0) (Memref.isWhole_whole _) (Memref.whole main_v1) (Memref.isWhole_whole _) (Memref.whole main_arg2) (Memref.isWhole_whole _) (Memref.whole main_v2) (Memref.isWhole_whole _) (Memref.whole main_v3) (Memref.isWhole_whole _) (Memref.whole main_cst) (Memref.isWhole_whole _) arg6 harg6 arg7 harg7 arg8 harg8 arg9 harg9 arg10 harg10 arg11 harg11 arg12 harg12 arg13 harg13 arg14 harg14 arg15 harg15 arg16 harg16 arg17 harg17 arg18 harg18 arg19 harg19 cc0_scratch9 cc0_scratch10 cc0_scratch11) K := by
    intro W K
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%d0, %f0, -, H0⟩, ⟨%d1, %f1, -, H1⟩, ⟨%d2, %f2, -, H2⟩, ⟨%d3, %f3, -, H3⟩, ⟨%d4, %f4, -, H4⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hq0, Hq1, Hq2, Hq3, Hq4, Hq5, Hq6, Hq7, Hq8, Hq9, Hq10, Hq11, Hq12, Hq13, Hq14, Hh0, Hh1, Hh2, Hh3, Hh4, Hh5, HW, Hk⟩
    sl_exec
    sl_step
    iapply Hk
    isplitl [H0]
    · iexists _, _; isplitr; swap; · iexact H0
      ipureintro; rfl
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    iexists _; iexact HW

end Cert.Kernel.Run

end
-- ==== Proof.KernelFrame.lean ====
/- The frame of the printed kernel. -/
module

public import proofs.«01_k».proof.Proof.KernelRun
public import Idealize.ShloMosaic.Lib.Claim

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-! ## The pipeline's proof data -/

/-- The output windows this certificate FORGETS (0, 1, 2, 3, 4): nothing reads what the kernel leaves in them, so nothing
    of it is named (Lib/Pipeline/Dat.lean `Dat.toRForget`). -/
def forgets0 : Fin 5 → Bool := fun w => w.val == 0 || w.val == 1 || w.val == 2 || w.val == 3 || w.val == 4

/-- The proof data of the one pipeline on core `c`: the arrays as the region finds them (`V`); after the body at
    point `t` each input's buffer at its block and the outputs, FORGOTTEN, at `Dat.unnamed`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, h⟩ => Pipeline.Dat.unnamed (cfg := cfg0) ⟨0, h⟩ t
    | ⟨1, h⟩ => Pipeline.Dat.unnamed (cfg := cfg0) ⟨1, h⟩ t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare d)
    ∗ (∃ d, owns (c : Thread nD τ) (ms0_1 t) fullShare d)
    ∗ (∃ d, owns (c : Thread nD τ) (ms0_2 t) fullShare d)
    ∗ (∃ d, owns (c : Thread nD τ) (ms0_3 t) fullShare d)
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ (∃ d, owns (c : Thread nD τ) (ms0_0 t) fullShare d)
    ∗ (∃ d, owns (c : Thread nD τ) (ms0_1 t) fullShare d)
    ∗ (∃ d, owns (c : Thread nD τ) (ms0_2 t) fullShare d)
    ∗ (∃ d, owns (c : Thread nD τ) (ms0_3 t) fullShare d)
    ∗ (∃ d, owns (c : Thread nD τ) (ms0_4 t) fullShare d))

set_option maxHeartbeats 1200000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨⟨HS0, HS1, HS2, HS3, HS4, HS5, HS6, HS7, HS8⟩, Hg, ⟨Hq0, Hq1, Hq2, Hq3, Hq4, Hq5, Hq6, Hq7, Hq8, Hq9, Hq10, Hq11, Hq12, Hq13, Hq14⟩, ⟨Hh0, Hh1, Hh2, Hh3, Hh4, Hh5⟩⟩, ⟨%W, -, HW⟩, ⟨%d0, H0⟩, ⟨%d1, H1⟩, ⟨%d2, H2⟩, ⟨%d3, H3⟩, ⟨%d4, H4⟩⟩
  iapply ((kernelRun0_A c _ _ _ _ _ _ _ _ _ _ _ _ _ _ _ _ _ _ _ _ _ _ _ _ _ _ _ _  (V m c main_v0) (V m c main_v1) (V m c main_arg2) (V m c main_v2) (V m c main_v3) (V m c main_cst)) W _)
  isplitl [H0]; · iexists _; iexact H0
  isplitl [H1]; · iexists _; iexact H1
  isplitl [H2]; · iexists _; iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [HW]; · iexact HW
  iintro ⟨H0, H1, H2, H3, H4, HS0, HS1, HS2, HS3, HS4, HS5, HS6, HS7, HS8, Hq0, Hq1, Hq2, Hq3, Hq4, Hq5, Hq6, Hq7, Hq8, Hq9, Hq10, Hq11, Hq12, Hq13, Hq14, Hh0, Hh1, Hh2, Hh3, Hh4, Hh5, ⟨%W', HW'⟩⟩
  isplitl [HS0 HS1 HS2 HS3 HS4 HS5 HS6 HS7 HS8 Hg Hq0 Hq1 Hq2 Hq3 Hq4 Hq5 Hq6 Hq7 Hq8 Hq9 Hq10 Hq11 Hq12 Hq13 Hq14 Hh0 Hh1 Hh2 Hh3 Hh4 Hh5]
  · isplitl [HS0 HS1 HS2 HS3 HS4 HS5 HS6 HS7 HS8]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iexact HS8
    isplitl [Hg]
    · iexact Hg
    isplitl [Hq0 Hq1 Hq2 Hq3 Hq4 Hq5 Hq6 Hq7 Hq8 Hq9 Hq10 Hq11 Hq12 Hq13 Hq14]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      iexact Hq14
    isplitl [Hh0]; · iexact Hh0
    isplitl [Hh1]; · iexact Hh1
    isplitl [Hh2]; · iexact Hh2
    isplitl [Hh3]; · iexact Hh3
    isplitl [Hh4]; · iexact Hh4
    iexact Hh5
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_dma_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmainD m Variants.none) (hA := A_eq m) (hin := fun _ => .rfl) (hout := fun _ => .rfl)

/-- At the compiled mesh, for any values, from any memory with zero counters: every weakly fair execution of @main on the
    TensorCores terminates, and every final state has every INPUT array of the pipeline unchanged, nothing stated of the
    FORGOTTEN outputs (windows 0, 1, 2, 3, 4) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main_quiescent m ρ)

end Cert.Kernel.Run

end
-- ==== Proof.RefRun.lean ====
/- The reference's run: the values it leaves in its five results, as functions of its operand arrays. -/
module

public import proofs.«01_k».proof.Proof.Gen.ReferenceIdeal.Frame
public import Idealize.ShloMosaic.Lib.Pipeline.Value
public import Idealize.ShloMosaic.Lib.Pipeline.ValueKit.Geometry

@[expose] public section

set_option maxRecDepth 16384

noncomputable section

namespace Cert.ReferenceIdeal.Run

open Cert.ReferenceIdeal Cert.ReferenceIdeal.Gen Idealize.ShloMosaic Idealize.ShloMosaic.TcCoe Idealize.SL.Sem
open Idealize.ShloMosaic.Pipeline (Dat)

variable {F : FTy → Type} [FloatOps F]

/-! ## The five results as functions of the operand arrays -/

/-- The scaled activations before clipping and rounding. -/
def scaled (X : Vec F S256x4096 .bf16) (G : Vec F S1x4096 .f32) : FVec F S256x4096 .f32 := k0_pay7 X G

/-- The scale of each row. -/
def scale (X : Vec F S256x4096 .bf16) (G : Vec F S1x4096 .f32) : FVec F S256x1 .f32 := k0_pay6 X G

/-- The lower clipping bound. -/
def lowest : F .f32 := Scalar.ofBits .f32 0xC3E00000#32

/-- The codes. -/
def codes (X : Vec F S256x4096 .bf16) (G : Vec F S1x4096 .f32) : Vec F S256x4096 .fp8e4m3 := k0_pay8 (scaled X G) lowest

/-- The query heads. -/
def qV (X : Vec F S256x4096 .bf16) (G : Vec F S1x4096 .f32) (W : Vec F S4096x2304 .fp8e4m3) (S : Vec F S1x2304 .f32)
    (P : Vec F S256x1 .i32) (Q : Vec F S1x64 .f32) : Vec F S256x16x128 .bf16 :=
  k0_pay15 (scale X G) (scaled X G) lowest W S P Q

/-- The key head. -/
def kV (X : Vec F S256x4096 .bf16) (G : Vec F S1x4096 .f32) (W : Vec F S4096x2304 .fp8e4m3) (S : Vec F S1x2304 .f32)
    (P : Vec F S256x1 .i32) (Q : Vec F S1x64 .f32) : Vec F S256x128 .bf16 :=
  k0_pay1 (k0_pay13 P Q) (k0_pay14 P Q) (k0_pay16 (scale X G) (scaled X G) lowest W S) (k0_pay17 (scale X G) (scaled X G) lowest W S)
    (k0_pay18 (scale X G) (scaled X G) lowest W S P Q) (k0_pay19 (scale X G) (scaled X G) lowest W S P Q)

/-- The value head. -/
def vV (X : Vec F S256x4096 .bf16) (G : Vec F S1x4096 .f32) (W : Vec F S4096x2304 .fp8e4m3) (S : Vec F S1x2304 .f32) : Vec F S256x128 .bf16 :=
  k0_pay2 (k0_pay11 (scale X G) (scaled X G) lowest W S)

/-- The scales as a row. -/
def scaleV (X : Vec F S256x4096 .bf16) (G : Vec F S1x4096 .f32) : Vec F S1x256 .f32 := k0_pay3 (scale X G)

/-! ## The staged blocks are the whole arrays -/

section
variable (m : (ℓ : Loc nD τ sig) → Buf (Elt F) ℓ) (ρ : Dev nD → PrngReg)

/-- The operand arrays as the body finds them. -/
abbrev opX (c : Dev nD) : Vec F S256x4096 .bf16 := V m c main_v0
/-- The gain. -/
abbrev opG (c : Dev nD) : Vec F S1x4096 .f32 := V m c main_v1
/-- The weight codes. -/
abbrev opW (c : Dev nD) : Vec F S4096x2304 .fp8e4m3 := V m c main_arg2
/-- The weight scales. -/
abbrev opS (c : Dev nD) : Vec F S1x2304 .f32 := V m c main_v2
/-- The positions. -/
abbrev opP (c : Dev nD) : Vec F S256x1 .i32 := V m c main_arg4
/-- The frequencies. -/
abbrev opQ (c : Dev nD) : Vec F S1x64 .f32 := V m c main_cst

/-- The window of the activations has a single block, at the origin. -/
theorem idx0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
/-- An index of the block of the activations is the same index of the array. -/
theorem emb0 (t : Fin cfg0.N) (j : S256x4096.Idx) : ((cfg0.win 0).blk t).view.emb j = j := by
  obtain ⟨e0, e1⟩ := idx0 t
  funext a; apply Fin.ext
  match a with
  | ⟨0, _⟩ => show win0_0.index t (0 : Fin 2) * 256 + 1 * (j 0).val = (j 0).val; omega
  | ⟨1, _⟩ => show win0_0.index t (1 : Fin 2) * 4096 + 1 * (j 1).val = (j 1).val; omega
/-- The block of the activations is the whole array. -/
theorem iblk0 (c : Dev nD) (t : Fin cfg0.N) : iblk m c 0 t = opX m c := by
  funext j; show V m c main_v0 (((cfg0.win 0).blk t).view.emb j) = V m c main_v0 j; rw [emb0]

/-- The window of the gain has a single block, at the origin. -/
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
/-- An index of the block of the gain is the same index of the array. -/
theorem emb1 (t : Fin cfg0.N) (j : S1x4096.Idx) : ((cfg0.win 1).blk t).view.emb j = j := by
  obtain ⟨e0, e1⟩ := idx1 t
  funext a; apply Fin.ext
  match a with
  | ⟨0, _⟩ => show win0_1.index t (0 : Fin 2) * 1 + 1 * (j 0).val = (j 0).val; omega
  | ⟨1, _⟩ => show win0_1.index t (1 : Fin 2) * 4096 + 1 * (j 1).val = (j 1).val; omega
/-- The block of the gain is the whole array. -/
theorem iblk1 (c : Dev nD) (t : Fin cfg0.N) : iblk m c 1 t = opG m c := by
  funext j; show V m c main_v1 (((cfg0.win 1).blk t).view.emb j) = V m c main_v1 j; rw [emb1]

/-- The window of the weight codes has a single block, at the origin. -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
/-- An index of the block of the weight codes is the same index of the array. -/
theorem emb2 (t : Fin cfg0.N) (j : S4096x2304.Idx) : ((cfg0.win 2).blk t).view.emb j = j := by
  obtain ⟨e0, e1⟩ := idx2 t
  funext a; apply Fin.ext
  match a with
  | ⟨0, _⟩ => show win0_2.index t (0 : Fin 2) * 4096 + 1 * (j 0).val = (j 0).val; omega
  | ⟨1, _⟩ => show win0_2.index t (1 : Fin 2) * 2304 + 1 * (j 1).val = (j 1).val; omega
/-- The block of the weight codes is the whole array. -/
theorem iblk2 (c : Dev nD) (t : Fin cfg0.N) : iblk m c 2 t = opW m c := by
  funext j; show V m c main_arg2 (((cfg0.win 2).blk t).view.emb j) = V m c main_arg2 j; rw [emb2]

/-- The window of the weight scales has a single block, at the origin. -/
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
/-- An index of the block of the weight scales is the same index of the array. -/
theorem emb3 (t : Fin cfg0.N) (j : S1x2304.Idx) : ((cfg0.win 3).blk t).view.emb j = j := by
  obtain ⟨e0, e1⟩ := idx3 t
  funext a; apply Fin.ext
  match a with
  | ⟨0, _⟩ => show win0_3.index t (0 : Fin 2) * 1 + 1 * (j 0).val = (j 0).val; omega
  | ⟨1, _⟩ => show win0_3.index t (1 : Fin 2) * 2304 + 1 * (j 1).val = (j 1).val; omega
/-- The block of the weight scales is the whole array. -/
theorem iblk3 (c : Dev nD) (t : Fin cfg0.N) : iblk m c 3 t = opS m c := by
  funext j; show V m c main_v2 (((cfg0.win 3).blk t).view.emb j) = V m c main_v2 j; rw [emb3]

/-- The window of the positions has a single block, at the origin. -/
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
/-- An index of the block of the positions is the same index of the array. -/
theorem emb4 (t : Fin cfg0.N) (j : S256x1.Idx) : ((cfg0.win 4).blk t).view.emb j = j := by
  obtain ⟨e0, e1⟩ := idx4 t
  funext a; apply Fin.ext
  match a with
  | ⟨0, _⟩ => show win0_4.index t (0 : Fin 2) * 256 + 1 * (j 0).val = (j 0).val; omega
  | ⟨1, _⟩ => show win0_4.index t (1 : Fin 2) * 1 + 1 * (j 1).val = (j 1).val; omega
/-- The block of the positions is the whole array. -/
theorem iblk4 (c : Dev nD) (t : Fin cfg0.N) : iblk m c 4 t = opP m c := by
  funext j; show V m c main_arg4 (((cfg0.win 4).blk t).view.emb j) = V m c main_arg4 j; rw [emb4]

/-- The window of the frequencies has a single block, at the origin. -/
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
/-- An index of the block of the frequencies is the same index of the array. -/
theorem emb5 (t : Fin cfg0.N) (j : S1x64.Idx) : ((cfg0.win 5).blk t).view.emb j = j := by
  obtain ⟨e0, e1⟩ := idx5 t
  funext a; apply Fin.ext
  match a with
  | ⟨0, _⟩ => show win0_5.index t (0 : Fin 2) * 1 + 1 * (j 0).val = (j 0).val; omega
  | ⟨1, _⟩ => show win0_5.index t (1 : Fin 2) * 64 + 1 * (j 1).val = (j 1).val; omega
/-- The block of the frequencies is the whole array. -/
theorem iblk5 (c : Dev nD) (t : Fin cfg0.N) : iblk m c 5 t = opQ m c := by
  funext j; show V m c main_cst (((cfg0.win 5).blk t).view.emb j) = V m c main_cst j; rw [emb5]

/-- The zero offsets of rank two. -/
theorem zero2 : (![0, 0] : Fin 2 → ℕ) = fun _ => 0 := by funext a; match a with | ⟨0, _⟩ => rfl | ⟨1, _⟩ => rfl
/-- The zero offsets of rank three. -/
theorem zero3 : (![0, 0, 0] : Fin 3 → ℕ) = fun _ => 0 := by funext a; match a with | ⟨0, _⟩ => rfl | ⟨1, _⟩ => rfl | ⟨2, _⟩ => rfl

/-- A load of a whole array reads the array. -/
theorem ld0 (X : Vec F S256x4096 .bf16) : View.ld X r0_0 = X := View.ld_unit_zero zero2 _ _
/-- Loading the whole block of the gain gives it back. -/
theorem ld1 (X : Vec F S1x4096 .f32) : View.ld X r0_1 = X := View.ld_unit_zero zero2 _ _
/-- Loading the whole block of the weight codes gives it back. -/
theorem ld2 (X : Vec F S4096x2304 .fp8e4m3) : View.ld X r0_2 = X := View.ld_unit_zero zero2 _ _
/-- Loading the whole block of the weight scales gives it back. -/
theorem ld3 (X : Vec F S1x2304 .f32) : View.ld X r0_3 = X := View.ld_unit_zero zero2 _ _
/-- Loading the whole block of the positions gives it back. -/
theorem ld4 (X : Vec F S256x1 .i32) : View.ld X r0_4 = X := View.ld_unit_zero zero2 _ _
/-- Loading the whole block of the frequencies gives it back. -/
theorem ld5 (X : Vec F S1x64 .f32) : View.ld X r0_5 = X := View.ld_unit_zero zero2 _ _

/-! What the body leaves in each result's buffer. -/

/-- What the body stores to the block of the query heads. -/
theorem out6_eq (X : Vec F S256x4096 .bf16) (G : Vec F S1x4096 .f32) (W : Vec F S4096x2304 .fp8e4m3) (S : Vec F S1x2304 .f32)
    (P : Vec F S256x1 .i32) (Q : Vec F S1x64 .f32) : out0_6 X G W S P Q = qV X G W S P Q := by
  unfold out0_6
  refine (View.canon_unit_zero zero3 _ _).trans ?_
  unfold k0_pay20 k0_pay21
  simp only [ld0, ld1, ld2, ld3, ld4, ld5]
  rfl

/-- What the body stores to the block of the key head. -/
theorem out7_eq (X : Vec F S256x4096 .bf16) (G : Vec F S1x4096 .f32) (W : Vec F S4096x2304 .fp8e4m3) (S : Vec F S1x2304 .f32)
    (P : Vec F S256x1 .i32) (Q : Vec F S1x64 .f32) : out0_7 X G W S P Q = kV X G W S P Q := by
  unfold out0_7
  refine (View.canon_unit_zero zero2 _ _).trans ?_
  unfold k0_pay20 k0_pay21
  simp only [ld0, ld1, ld2, ld3, ld4, ld5]
  rfl

/-- What the body stores to the block of the value head. -/
theorem out8_eq (X : Vec F S256x4096 .bf16) (G : Vec F S1x4096 .f32) (W : Vec F S4096x2304 .fp8e4m3) (S : Vec F S1x2304 .f32)
    (P : Vec F S256x1 .i32) (Q : Vec F S1x64 .f32) : out0_8 X G W S P Q = vV X G W S := by
  unfold out0_8
  refine (View.canon_unit_zero zero2 _ _).trans ?_
  unfold k0_pay20 k0_pay21
  simp only [ld0, ld1, ld2, ld3, ld4, ld5]
  rfl

/-- What the body stores to the block of the codes. -/
theorem out9_eq (X : Vec F S256x4096 .bf16) (G : Vec F S1x4096 .f32) (W : Vec F S4096x2304 .fp8e4m3) (S : Vec F S1x2304 .f32)
    (P : Vec F S256x1 .i32) (Q : Vec F S1x64 .f32) : out0_9 X G W S P Q = codes X G := by
  unfold out0_9
  refine (View.canon_unit_zero zero2 _ _).trans ?_
  unfold k0_pay21
  simp only [ld0, ld1]
  rfl

/-- What the body stores to the block of the row scales. -/
theorem out10_eq (X : Vec F S256x4096 .bf16) (G : Vec F S1x4096 .f32) (W : Vec F S4096x2304 .fp8e4m3) (S : Vec F S1x2304 .f32)
    (P : Vec F S256x1 .i32) (Q : Vec F S1x64 .f32) : out0_10 X G W S P Q = scaleV X G := by
  unfold out0_10
  refine (View.canon_unit_zero zero2 _ _).trans ?_
  unfold k0_pay20
  simp only [ld0, ld1]
  rfl

/-- What the step leaves in the block of the query heads. -/
theorem value6 (c : Dev nD) (t : Fin cfg0.N) : (dats m 0 c).after 6 t = qV (opX m c) (opG m c) (opW m c) (opS m c) (opP m c) (opQ m c) := by
  rw [after0_6, iblk0, iblk1, iblk2, iblk3, iblk4, iblk5]
  exact out6_eq _ _ _ _ _ _

/-- What the step leaves in the block of the key head. -/
theorem value7 (c : Dev nD) (t : Fin cfg0.N) : (dats m 0 c).after 7 t = kV (opX m c) (opG m c) (opW m c) (opS m c) (opP m c) (opQ m c) := by
  rw [after0_7, iblk0, iblk1, iblk2, iblk3, iblk4, iblk5]
  exact out7_eq _ _ _ _ _ _

/-- What the step leaves in the block of the value head. -/
theorem value8 (c : Dev nD) (t : Fin cfg0.N) : (dats m 0 c).after 8 t = vV (opX m c) (opG m c) (opW m c) (opS m c) := by
  rw [after0_8, iblk0, iblk1, iblk2, iblk3, iblk4, iblk5]
  exact out8_eq _ _ _ _ _ _

/-- What the step leaves in the block of the codes. -/
theorem value9 (c : Dev nD) (t : Fin cfg0.N) : (dats m 0 c).after 9 t = codes (opX m c) (opG m c) := by
  rw [after0_9, iblk0, iblk1, iblk2, iblk3, iblk4, iblk5]
  exact out9_eq _ _ _ _ _ _

/-- What the step leaves in the block of the row scales. -/
theorem value10 (c : Dev nD) (t : Fin cfg0.N) : (dats m 0 c).after 10 t = scaleV (opX m c) (opG m c) := by
  rw [after0_10, iblk0, iblk1, iblk2, iblk3, iblk4, iblk5]
  exact out10_eq _ _ _ _ _ _

/-! The final arrays. -/

/-- The final array of the query heads. -/
theorem final6 (c : Dev nD) : (dats m 0 c).arrAt 6 cfg0.N = qV (opX m c) (opG m c) (opW m c) (opS m c) (opP m c) (opQ m c) := by
  refine (dats m 0 c).arrAt_eq_of_after_last 6 (⟨0, by decide⟩ : Fin cfg0.N) (by decide +kernel) _ fun j => ?_
  blk_simp
  exact congrFun (value6 m c _) j

/-- The final array of the key head. -/
theorem final7 (c : Dev nD) : (dats m 0 c).arrAt 7 cfg0.N = kV (opX m c) (opG m c) (opW m c) (opS m c) (opP m c) (opQ m c) := by
  refine (dats m 0 c).arrAt_eq_of_after_last 7 (⟨0, by decide⟩ : Fin cfg0.N) (by decide +kernel) _ fun j => ?_
  blk_simp
  exact congrFun (value7 m c _) j

/-- The final array of the value head. -/
theorem final8 (c : Dev nD) : (dats m 0 c).arrAt 8 cfg0.N = vV (opX m c) (opG m c) (opW m c) (opS m c) := by
  refine (dats m 0 c).arrAt_eq_of_after_last 8 (⟨0, by decide⟩ : Fin cfg0.N) (by decide +kernel) _ fun j => ?_
  blk_simp
  exact congrFun (value8 m c _) j

/-- The final array of the codes. -/
theorem final9 (c : Dev nD) : (dats m 0 c).arrAt 9 cfg0.N = codes (opX m c) (opG m c) := by
  refine (dats m 0 c).arrAt_eq_of_after_last 9 (⟨0, by decide⟩ : Fin cfg0.N) (by decide +kernel) _ fun j => ?_
  blk_simp
  exact congrFun (value9 m c _) j

/-- The final array of the scales. -/
theorem final10 (c : Dev nD) : (dats m 0 c).arrAt 10 cfg0.N = scaleV (opX m c) (opG m c) := by
  refine (dats m 0 c).arrAt_eq_of_after_last 10 (⟨0, by decide⟩ : Fin cfg0.N) (by decide +kernel) _ fun j => ?_
  blk_simp
  exact congrFun (value10 m c _) j

/-- The reference's run: each result is the function of the operand arrays stated above, and the arguments stay. -/
theorem run_values : θ_run defs (onTc (τ := τ) (main (F := F))) ⟨m, fun _ => 0, ρ⟩ (fun r => ∀ c : Dev nD,
      r.2.mem ((c.tc : Thread nD τ).loc main_v3_0) = qV (opX m c) (opG m c) (opW m c) (opS m c) (opP m c) (opQ m c)
      ∧ r.2.mem ((c.tc : Thread nD τ).loc main_v3_1) = kV (opX m c) (opG m c) (opW m c) (opS m c) (opP m c) (opQ m c)
      ∧ r.2.mem ((c.tc : Thread nD τ).loc main_v3_2) = vV (opX m c) (opG m c) (opW m c) (opS m c)
      ∧ r.2.mem ((c.tc : Thread nD τ).loc main_v3_3) = codes (opX m c) (opG m c)
      ∧ r.2.mem ((c.tc : Thread nD τ).loc main_v3_4) = scaleV (opX m c) (opG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 6).trans (final6 m c), ((h c).1 7).trans (final7 m c),
      ((h c).1 8).trans (final8 m c), ((h c).1 9).trans (final9 m c), ((h c).1 10).trans (final10 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c)))⟩) (run_main m ρ)

end

end Cert.ReferenceIdeal.Run

end
-- ==== Proof.Runs.lean ====
/- What the runs of the idealized kernel's body are stated over: @main up to the launch, the staging and
   scratch memrefs by name, the kernel's own semaphore cells, the operands left in HBM, and the invariant
   conjunct by conjunct. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- @main up to the region: the host operations, then the region. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The kernel body on any staging memrefs: a subtype the run finds -/

/-- Each window's current staging memref at point `t`, spelled as the pipeline passes it (`bodyAt0`), and its wholeness. -/
abbrev ms0_0 (t : Fin cfg0.N) : Memref sig .tc .vmem S256x16x128 .bf16 := win0_0.stage (cfg0.slots t 0)
/-- The buffer of result 0 is a whole array. -/
abbrev hs0_0 (t : Fin cfg0.N) : (ms0_0 t).IsWhole := hstage0_0 0
/-- The buffer of result 1. -/
abbrev ms0_1 (t : Fin cfg0.N) : Memref sig .tc .vmem S256x128 .bf16 := win0_1.stage (cfg0.slots t 1)
/-- The buffer of result 1 is a whole array. -/
abbrev hs0_1 (t : Fin cfg0.N) : (ms0_1 t).IsWhole := hstage0_1 0
/-- The buffer of result 2. -/
abbrev ms0_2 (t : Fin cfg0.N) : Memref sig .tc .vmem S256x128 .bf16 := win0_2.stage (cfg0.slots t 2)
/-- The buffer of result 2 is a whole array. -/
abbrev hs0_2 (t : Fin cfg0.N) : (ms0_2 t).IsWhole := hstage0_2 0
/-- The buffer of result 3. -/
abbrev ms0_3 (t : Fin cfg0.N) : Memref sig .tc .vmem S256x4096 .fp8e4m3 := win0_3.stage (cfg0.slots t 3)
/-- The buffer of result 3 is a whole array. -/
abbrev hs0_3 (t : Fin cfg0.N) : (ms0_3 t).IsWhole := hstage0_3 0
/-- The buffer of result 4. -/
abbrev ms0_4 (t : Fin cfg0.N) : Memref sig .tc .vmem S1x256 .f32 := win0_4.stage (cfg0.slots t 4)
/-- The buffer of result 4 is a whole array. -/
abbrev hs0_4 (t : Fin cfg0.N) : (ms0_4 t).IsWhole := hstage0_4 0
/-- The scratch operands: whole scoped buffers of the kernel's own, passed beside the windows. -/
abbrev scM0_0 : Memref sig .tc .vmem S256x4096 .bf16 := Memref.whole cc0_scratch0
/-- Scratch buffer 1. -/
abbrev scM0_1 : Memref sig .tc .vmem S1x4096 .f32 := Memref.whole cc0_scratch1
/-- Scratch buffer 2. -/
abbrev scM0_2 : Memref sig .tc .vmem S9x4096x256 .fp8e4m3 := Memref.whole cc0_scratch2
/-- Scratch buffer 3. -/
abbrev scM0_3 : Memref sig .tc .vmem S1x2304 .f32 := Memref.whole cc0_scratch3
/-- Scratch buffer 4. -/
abbrev scM0_4 : Memref sig .tc .vmem S1x256 .i32 := Memref.whole cc0_scratch4
/-- Scratch buffer 5. -/
abbrev scM0_5 : Memref sig .tc .vmem S1x128 .f32 := Memref.whole cc0_scratch5
/-- Scratch buffer 6. -/
abbrev scM0_6 : Memref sig .tc .vmem S256x128 .f32 := Memref.whole cc0_scratch6
/-- Scratch buffer 7. -/
abbrev scM0_7 : Memref sig .tc .vmem S256x128 .f32 := Memref.whole cc0_scratch7
/-- Scratch buffer 8. -/
abbrev scM0_8 : Memref sig .tc .vmem S256x128 .f32 := Memref.whole cc0_scratch8
/-- The operands left in HBM that the body copies into scratch itself, whole. -/
abbrev hbM0_0 : Memref sig .tc .hbm S256x4096 .bf16 := Memref.whole main_v0
/-- Operand array 1. -/
abbrev hbM0_1 : Memref sig .tc .hbm S1x4096 .f32 := Memref.whole main_v1
/-- Operand array 2. -/
abbrev hbM0_2 : Memref sig .tc .hbm S4096x2304 .fp8e4m3 := Memref.whole main_arg2
/-- Operand array 3. -/
abbrev hbM0_3 : Memref sig .tc .hbm S1x2304 .f32 := Memref.whole main_v2
/-- Operand array 4. -/
abbrev hbM0_4 : Memref sig .tc .hbm S1x256 .i32 := Memref.whole main_v3
/-- Operand array 5. -/
abbrev hbM0_5 : Memref sig .tc .hbm S1x128 .f32 := Memref.whole main_cst
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
/-- Ownership of an operand array with its contents. -/
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 15 → SemLoc sig := fun j => (![SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19] : Fin 15 → SemLoc sig) j
/-- The kernel's own semaphores are distinct from the launch's. -/
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0) := by
  rw [Pipeline.ownSems0_eq_of_list c osem0 [0, 1, 2, 3, 4, 5, 6, 7, 8, 9, 10, 11, 12, 13, 14] (by decide) (by decide)]; rfl
/-- The HBM operands the body moves, as references: unscoped, no window's array (`Pipeline.restRefs`). -/
def H0 : Finset (Ref sig .tc) := {main_v0, main_v1, main_arg2, main_v2, main_v3, main_cst}
/-- The operand arrays are among those the launch leaves alone. -/
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v0) ∗ hbPt0 c hbM0_1 (V m c main_v1) ∗ hbPt0 c hbM0_2 (V m c main_arg2) ∗ hbPt0 c hbM0_3 (V m c main_v2) ∗ hbPt0 c hbM0_4 (V m c main_v3) ∗ hbPt0 c hbM0_5 (V m c main_cst)) := by
  rw [BI.bigSep_eq_bigSepL_of_eq [main_v0, main_v1, main_arg2, main_v2, main_v3, main_cst] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r) ∗ iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0) ∗ iprop(hbPt0 c hbM0_0 (V m c main_v0) ∗ hbPt0 c hbM0_1 (V m c main_v1) ∗ hbPt0 c hbM0_2 (V m c main_arg2) ∗ hbPt0 c hbM0_3 (V m c main_v2) ∗ hbPt0 c hbM0_4 (V m c main_v3) ∗ hbPt0 c hbM0_5 (V m c main_cst))) := by
  rw [Pipeline.ΦD_eq, scopedRest0_eq, ownSems00_eq, hbmPts0_eq]; simp only [scM0_0, scM0_1, scM0_2, scM0_3, scM0_4, scM0_5, scM0_6, scM0_7, scM0_8, owns_whole]; try rfl

end Cert.KernelIdeal.Run

end
-- ==== Proof.BodyRun.lean ====
/- The run of the idealized kernel's body, with the pieces it stores into each output. -/
module

public import proofs.«01_k».proof.Proof.Runs

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1364000 in set_option sl_exec.dmaWindow true in set_option sl_exec.dmaWindowSet true in
/-- The body's run, and what it stores: on whole staging memrefs the body runs to a continuation that holds, in each of
    the five outputs' buffers, what was there overwritten by the listed pieces (the five lists are functions of what the
    buffer of the weight slabs held before the run), and everything else at some contents. -/
def bodyRun (c : Dev nD) (arg6 : Memref sig .tc .vmem S256x16x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x4096 .fp8e4m3) (harg9 : arg9.IsWhole) (arg10 : Memref sig .tc .vmem S1x256 .f32) (harg10 : arg10.IsWhole) (arg11 : Memref sig .tc .vmem S256x4096 .bf16) (harg11 : arg11.IsWhole) (arg12 : Memref sig .tc .vmem S1x4096 .f32) (harg12 : arg12.IsWhole) (arg13 : Memref sig .tc .vmem S9x4096x256 .fp8e4m3) (harg13 : arg13.IsWhole) (arg14 : Memref sig .tc .vmem S1x2304 .f32) (harg14 : arg14.IsWhole) (arg15 : Memref sig .tc .vmem S1x256 .i32) (harg15 : arg15.IsWhole) (arg16 : Memref sig .tc .vmem S1x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole)
     (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) :
    { L : ((arg13.view.ty.Contents (Elt F)) → List (View.Piece (Elt F) S256x16x128 .bf16)) × ((arg13.view.ty.Contents (Elt F)) → List (View.Piece (Elt F) S256x128 .bf16)) × ((arg13.view.ty.Contents (Elt F)) → List (View.Piece (Elt F) S256x128 .bf16)) × ((arg13.view.ty.Contents (Elt F)) → List (View.Piece (Elt F) S256x4096 .fp8e4m3)) × ((arg13.view.ty.Contents (Elt F)) → List (View.Piece (Elt F) S1x256 .f32)) //
      ∀ (W : Waits sig Unit) (K : PUnit → sProp 𝕄),
        iprop((∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ owes (c : Thread nD τ) 0 W
            ∗ (iprop((∃ g f, owns (c : Thread nD τ) arg6 fullShare (arg6.view.read (Elt F) (arg6.view.writes (Elt F) f (L.1 g)))) ∗ (∃ g f, owns (c : Thread nD τ) arg7 fullShare (arg7.view.read (Elt F) (arg7.view.writes (Elt F) f (L.2.1 g)))) ∗ (∃ g f, owns (c : Thread nD τ) arg8 fullShare (arg8.view.read (Elt F) (arg8.view.writes (Elt F) f (L.2.2.1 g)))) ∗ (∃ g f, owns (c : Thread nD τ) arg9 fullShare (arg9.view.read (Elt F) (arg9.view.writes (Elt F) f (L.2.2.2.1 g)))) ∗ (∃ g f, owns (c : Thread nD τ) arg10 fullShare (arg10.view.read (Elt F) (arg10.view.writes (Elt F) f (L.2.2.2.2 g)))) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ (∃ W', owes (c : Thread nD τ) 0 W')) -∗ K ⟨⟩))
          ⊢ wp frame (wpE (defs₀ (F := F)) Variants.none c none) Set.univ (cc0__body (Memref.whole main_v0) (Memref.isWhole_whole _) (Memref.whole main_v1) (Memref.isWhole_whole _) (Memref.whole main_arg2) (Memref.isWhole_whole _) (Memref.whole main_v2) (Memref.isWhole_whole _) (Memref.whole main_v3) (Memref.isWhole_whole _) (Memref.whole main_cst) (Memref.isWhole_whole _) arg6 harg6 arg7 harg7 arg8 harg8 arg9 harg9 arg10 harg10 arg11 harg11 arg12 harg12 arg13 harg13 arg14 harg14 arg15 harg15 arg16 harg16 arg17 harg17 arg18 harg18 arg19 harg19 cc0_scratch9 cc0_scratch10 cc0_scratch11) K } := by
    refine ⟨(?_, ?_, ?_, ?_, ?_), ?_⟩
    rotate_left 5
    intro W K
    dsimp only
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%d0, %f0, -, H0⟩, ⟨%d1, %f1, -, H1⟩, ⟨%d2, %f2, -, H2⟩, ⟨%d3, %f3, -, H3⟩, ⟨%d4, %f4, -, H4⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hq0, Hq1, Hq2, Hq3, Hq4, Hq5, Hq6, Hq7, Hq8, Hq9, Hq10, Hq11, Hq12, Hq13, Hq14, Hh0, Hh1, Hh2, Hh3, Hh4, Hh5, HW, Hk⟩
    sl_exec
    sl_step
    iapply Hk
    isplitl [H0]
    · iexists fs2, f0, _; isplitr; swap; · iexact H0
      ipureintro; rfl
    isplitl [H1]
    · iexists fs2, f1, _; isplitr; swap; · iexact H1
      ipureintro; rfl
    isplitl [H2]
    · iexists fs2, f2, _; isplitr; swap; · iexact H2
      ipureintro; rfl
    isplitl [H3]
    · iexists fs2, f3, _; isplitr; swap; · iexact H3
      ipureintro; rfl
    isplitl [H4]
    · iexists fs2, f4, _; isplitr; swap; · iexact H4
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    iexists _; iexact HW

end Cert.KernelIdeal.Run

end
-- ==== Proof.Spec.lean ====
/- What the idealized kernel computes, written as functions of its operands: the codes and the row scales chunk by
   chunk, the weight slabs, the rotation's two tables, and the five results as the pieces the body stores. -/
module

public import proofs.«01_k».proof.Proof.Gen.KernelIdeal.Skeleton
public import Idealize.ShloMosaic.Lib.Pipeline.FrameBody
public import Idealize.ShloMosaic.Lib.ValueIdxCore

@[expose] public section

set_option maxRecDepth 16384

noncomputable section

namespace Cert.KernelIdeal.Spec

open Idealize.ShloMosaic Idealize.ShloMosaic.TcCoe
open Idealize.ShloMosaic.ValueIdx (ix2 ix3)
open Cert.KernelIdeal.Gen

variable {F : FTy → Type} [FloatOps F]

/-- Rows 0 to 127 of the activations. -/
def xLo (X : Vec F S256x4096 .bf16) : Vec F S128x4096 .bf16 :=
  fun i => X ((Rect.unit (s := S256x4096) ![0, 0] S128x4096.size inb_S256x4096_S128x4096_0_0).emb i)
/-- Rows 128 to 255 of the activations. -/
def xHi (X : Vec F S256x4096 .bf16) : Vec F S128x4096 .bf16 :=
  fun i => X ((Rect.unit (s := S256x4096) ![128, 0] S128x4096.size inb_S256x4096_S128x4096_128_0).emb i)

/-- The exponent search's result before its last step, of a chunk's scaled row maxima. -/
def search (t : FVec F S128x1 .f32) : IVec S128x1 32 := k0_pay10 t k0_pay7 k0_pay8 k0_pay9

/-- One chunk's codes: its normalised rows times the inverse power of two, clamped and narrowed. -/
def chunkCodes (X : Vec F S128x4096 .bf16) (G : Vec F S1x4096 .f32) : FVec F S128x4096 .fp8e4m3 :=
  k0_pay14 (k0_pay5 X G) (k0_pay6 X G) (search (k0_pay6 X G)) k0_pay11
/-- One chunk's row scales, each repeated along a row of 128. -/
def chunkScale (X : Vec F S128x4096 .bf16) (G : Vec F S1x4096 .f32) : FVec F S128x128 .f32 :=
  k0_pay15 (k0_pay6 X G) (search (k0_pay6 X G)) k0_pay11

/-- The codes of the two chunks, as stored. -/
def codesL (X : Vec F S256x4096 .bf16) (G : Vec F S1x4096 .f32) : List (View.Piece (Elt F) S256x4096 .fp8e4m3) :=
  [⟨Rect.unit (s := S256x4096) ![128, 0] S128x4096.size inb_S256x4096_S128x4096_128_0, chunkCodes (xHi X) G⟩,
   ⟨Rect.unit (s := S256x4096) ![0, 0] S128x4096.size inb_S256x4096_S128x4096_0_0, chunkCodes (xLo X) G⟩]
/-- The row scales of the two chunks, as stored. -/
def rowscaleL (X : Vec F S256x4096 .bf16) (G : Vec F S1x4096 .f32) : List (View.Piece (Elt F) S256x128 .f32) :=
  [⟨Rect.unit (s := S256x128) ![128, 0] S128x128.size inb_S256x128_S128x128_128_0, chunkScale (xHi X) G⟩,
   ⟨Rect.unit (s := S256x128) ![0, 0] S128x128.size inb_S256x128_S128x128_0_0, chunkScale (xLo X) G⟩]

/-- The codes. -/
def codes (X : Vec F S256x4096 .bf16) (G : Vec F S1x4096 .f32) : Vec F S256x4096 .fp8e4m3 := View.canon (codesL X G)
/-- The row scales, each repeated along a row of 128. -/
def rowscale (X : Vec F S256x4096 .bf16) (G : Vec F S1x4096 .f32) : Vec F S256x128 .f32 := View.canon (rowscaleL X G)

/-- The table of cosines. -/
def cosT (P : Vec F S1x256 .i32) (Q : Vec F S1x128 .f32) : FVec F S256x128 .f32 := k0_pay3 P Q
/-- The table of sines, negated in its first 64 columns. -/
def sinT (P : Vec F S1x256 .i32) (Q : Vec F S1x128 .f32) : FVec F S256x128 .f32 :=
  k0_pay4 (iota Kind.tc S256x128 32 [1] iota_S256x128_d1_w32) (k0_pay2 P Q)

/-- Slab `j` of the weights: their columns `256 j` to `256 j + 255`. -/
def slab (W : Vec F S4096x2304 .fp8e4m3) (j : Fin 9) : Vec F S1x4096x256 .fp8e4m3 :=
  fun x => W (ix2 (x 1 : Fin 4096) ⟨256 * j.val + (x 2 : Fin 256).val, by have h : (x 2).val < 256 := (x 2).isLt; have := j.isLt; show 256 * j.val + (x 2).val < 2304; omega⟩)

/-- The 128 weight scales from column `o` on. -/
def wsAt (S : Vec F S1x2304 .f32) (o : Fin 2177) : Vec F S1x128 .f32 :=
  fun x => S (ix2 (x 0 : Fin 1) ⟨o.val + (x 1 : Fin 128).val, by have h : (x 1).val < 128 := (x 1).isLt; have := o.isLt; show o.val + (x 1).val < 2304; omega⟩)

/-- The two query heads of slab `j`: the slab's product with the codes, both halves scaled and rotated, in rows
    interleaved. -/
def qPair (X : Vec F S256x4096 .bf16) (G : Vec F S1x4096 .f32) (W : Vec F S4096x2304 .fp8e4m3) (S : Vec F S1x2304 .f32)
    (P : Vec F S1x256 .i32) (Q : Vec F S1x128 .f32) (j : Fin 9) : Vec F S256x2x128 .bf16 :=
  k0_pay28 (codes X G) (slab W j) (rowscale X G) (wsAt S ⟨256 * j.val, by omega⟩) (rowscale X G)
    (wsAt S ⟨256 * j.val + 128, by omega⟩) (cosT P Q) (sinT P Q) (cosT P Q) (sinT P Q)

/-- The query heads, as stored: two at a time. -/
def qL (X : Vec F S256x4096 .bf16) (G : Vec F S1x4096 .f32) (W : Vec F S4096x2304 .fp8e4m3) (S : Vec F S1x2304 .f32)
    (P : Vec F S1x256 .i32) (Q : Vec F S1x128 .f32) : List (View.Piece (Elt F) S256x16x128 .bf16) :=
  [⟨Rect.unit (s := S256x16x128) ![0, 14, 0] S256x2x128.size inb_S256x16x128_S256x2x128_0_14_0, qPair X G W S P Q 7⟩,
   ⟨Rect.unit (s := S256x16x128) ![0, 12, 0] S256x2x128.size inb_S256x16x128_S256x2x128_0_12_0, qPair X G W S P Q 6⟩,
   ⟨Rect.unit (s := S256x16x128) ![0, 10, 0] S256x2x128.size inb_S256x16x128_S256x2x128_0_10_0, qPair X G W S P Q 5⟩,
   ⟨Rect.unit (s := S256x16x128) ![0, 8, 0] S256x2x128.size inb_S256x16x128_S256x2x128_0_8_0, qPair X G W S P Q 4⟩,
   ⟨Rect.unit (s := S256x16x128) ![0, 6, 0] S256x2x128.size inb_S256x16x128_S256x2x128_0_6_0, qPair X G W S P Q 3⟩,
   ⟨Rect.unit (s := S256x16x128) ![0, 4, 0] S256x2x128.size inb_S256x16x128_S256x2x128_0_4_0, qPair X G W S P Q 2⟩,
   ⟨Rect.unit (s := S256x16x128) ![0, 2, 0] S256x2x128.size inb_S256x16x128_S256x2x128_0_2_0, qPair X G W S P Q 1⟩,
   ⟨Rect.unit (s := S256x16x128) ![0, 0, 0] S256x2x128.size inb_S256x16x128_S256x2x128_0_0_0, qPair X G W S P Q 0⟩]

/-- The query heads. -/
def qV (X : Vec F S256x4096 .bf16) (G : Vec F S1x4096 .f32) (W : Vec F S4096x2304 .fp8e4m3) (S : Vec F S1x2304 .f32)
    (P : Vec F S1x256 .i32) (Q : Vec F S1x128 .f32) : Vec F S256x16x128 .bf16 := View.canon (qL X G W S P Q)
/-- The key head: the last slab's first half, scaled and rotated. -/
def kV (X : Vec F S256x4096 .bf16) (G : Vec F S1x4096 .f32) (W : Vec F S4096x2304 .fp8e4m3) (S : Vec F S1x2304 .f32)
    (P : Vec F S1x256 .i32) (Q : Vec F S1x128 .f32) : Vec F S256x128 .bf16 :=
  k0_pay60 (k0_pay59 (codes X G) (slab W 8)) (rowscale X G) (wsAt S 2048) (cosT P Q) (sinT P Q)
/-- The value head: the last slab's second half, scaled. -/
def vV (X : Vec F S256x4096 .bf16) (G : Vec F S1x4096 .f32) (W : Vec F S4096x2304 .fp8e4m3) (S : Vec F S1x2304 .f32) :
    Vec F S256x128 .bf16 :=
  k0_pay61 (k0_pay59 (codes X G) (slab W 8)) (rowscale X G) (wsAt S 2176)
/-- The row scales as one row of 256. -/
def scaleV (X : Vec F S256x4096 .bf16) (G : Vec F S1x4096 .f32) : Vec F S1x256 .f32 := k0_pay27 (rowscale X G)

end Cert.KernelIdeal.Spec

end
-- ==== Proof.Slabs.lean ====
/- The nine weight slabs as the body loads them: each slab is copied into its own plane of the stacked buffer, and a
   load of plane `j` reads the copy of slab `j`, whatever the buffer held before. -/
module

public import proofs.«01_k».proof.Proof.BodyRun
public import proofs.«01_k».proof.Proof.Spec

@[expose] public section

set_option maxRecDepth 16384

noncomputable section

namespace Cert.KernelIdeal.Run

open Idealize.ShloMosaic Idealize.ShloMosaic.TcCoe
open Idealize.ShloMosaic.ValueIdx (ix2 ix3 eq_ix3)
open Cert.KernelIdeal.Gen

variable {F : FTy → Type} [FloatOps F]

/-- The view of plane `i` of the stacked buffer, its leading axis dropped. -/
abbrev plane (M : Memref sig .tc .vmem S9x4096x256 .fp8e4m3) (off : Fin 3 → ℕ)
    (inb : ∀ a, off a + S1x4096x256.size a ≤ S9x4096x256.size a) (hr : ∀ a, (Rect.unit (s := S9x4096x256) off S1x4096x256.size inb).stride a = 1) :=
  ((M.slice (Rect.unit (s := S9x4096x256) off S1x4096x256.size inb) hr).squeeze S4096x256 squeezes_S1x4096x256_S4096x256).view

/-- The plane's view places index `y` at plane `i` of the stack. -/
theorem plane_emb (M : Memref sig .tc .vmem S9x4096x256 .fp8e4m3) (off : Fin 3 → ℕ) (inb) (hr) (i : Fin 9)
    (h : off = ![i.val, 0, 0]) (y : S4096x256.Idx) :
    (plane M off inb hr).emb y = M.view.emb (ix3 i (y 0 : Fin 4096) (y 1 : Fin 256)) := by
  subst h
  have e : (plane M ![i.val, 0, 0] inb hr).emb y
      = M.view.emb ((Rect.unit (s := S9x4096x256) ![i.val, 0, 0] S1x4096x256.size inb).emb
          (Shape.reshapeEquiv squeezes_S1x4096x256_S4096x256.numel_eq y)) := rfl
  rw [e, Shape.reshapeEquiv_cons_one]
  congr 1
  funext a
  apply Fin.ext
  rw [Rect.emb_apply]
  match a with
  | ⟨0, _⟩ => show i.val + 1 * 0 = i.val; omega
  | ⟨1, _⟩ => show 0 + 1 * (y 0 : Fin 4096).val = (y 0 : Fin 4096).val; omega
  | ⟨2, _⟩ => show 0 + 1 * (y 1 : Fin 256).val = (y 1 : Fin 256).val; omega

/-- A copy into plane `i`, read back on plane `j` of the stack: the copy where `i = j`, what was there before elsewhere. -/
theorem read_write_plane (M : Memref sig .tc .vmem S9x4096x256 .fp8e4m3) (off : Fin 3 → ℕ) (inb) (hr) (i : Fin 9)
    (h : off = ![i.val, 0, 0]) (f : M.view.ty.Contents (Elt F)) (w : S4096x256.Idx → Elt F .fp8e4m3)
    (j : Fin 9) (a : Fin 4096) (b : Fin 256) :
    M.view.read (Elt F) ((plane M off inb hr).write (Elt F) f w Finset.univ) (ix3 j a b)
      = if i = j then w (ix2 a b) else M.view.read (Elt F) f (ix3 j a b) := by
  split
  · rename_i e
    subst e
    have e1 : M.view.read (Elt F) ((plane M off inb hr).write (Elt F) f w Finset.univ) (ix3 i a b)
        = (plane M off inb hr).read (Elt F) ((plane M off inb hr).write (Elt F) f w Finset.univ) (ix2 a b) := by
      have e2 := plane_emb M off inb hr i h (ix2 a b)
      unfold View.read
      rw [e2]
    rw [e1]
    exact View.read_write_of_mem _ _ (Finset.mem_univ _)
  · rename_i e
    apply View.read_congr_at
    apply View.write_of_not_mem
    intro hm
    obtain ⟨x, _, hx⟩ := Finset.mem_map.mp hm
    rw [plane_emb M off inb hr i h] at hx
    have h0 := congrArg (fun k : S9x4096x256.Idx => (k 0 : Fin 9)) (M.view.emb.injective hx)
    exact e h0

/-- Index `x` of the load of plane `j` is the stack's index at plane `j`. -/
theorem slab_idx (off : Fin 3 → ℕ) (inb) (j : Fin 9) (h : off = ![j.val, 0, 0]) (x : S1x4096x256.Idx) :
    (Rect.unit (s := S9x4096x256) off S1x4096x256.size inb).toLoadRect.idx x
      = ix3 j (x 1 : Fin 4096) (x 2 : Fin 256) := by
  subst h
  show (Rect.unit (s := S9x4096x256) ![j.val, 0, 0] S1x4096x256.size inb).emb x = _
  funext a
  apply Fin.ext
  rw [Rect.emb_apply]
  match a with
  | ⟨0, _⟩ =>
      have h0 : (x 0).val = 0 := by have h : (x 0).val < 1 := (x 0).isLt; omega
      show j.val + 1 * (x 0 : Fin 1).val = j.val; omega
  | ⟨1, _⟩ => show 0 + 1 * (x 1 : Fin 4096).val = (x 1 : Fin 4096).val; omega
  | ⟨2, _⟩ => show 0 + 1 * (x 2 : Fin 256).val = (x 2 : Fin 256).val; omega

/-- What the copy of slab `j` carries, at an index. -/
theorem copy_apply (off : Fin 2 → ℕ) (inb : ∀ a, off a + S4096x256.size a ≤ S4096x2304.size a) (hr) (c : Dev nD) (fh2 : HbBuf0 (F := F) c hbM0_2) (j : Fin 9)
    (h : off = ![0, 256 * j.val]) (x : S1x4096x256.Idx) :
    (ReadAs.same.apply (View.read (Elt F) ((Memref.whole main_arg2).slice (Rect.unit (s := S4096x2304) off S4096x256.size inb) hr).view fh2) : S4096x256.Idx → Elt F .fp8e4m3)
      (ix2 (x 1 : Fin 4096) (x 2 : Fin 256)) = Spec.slab fh2 j x := by
  subst h
  show fh2 ((Rect.unit (s := S4096x2304) ![0, 256 * j.val] S4096x256.size inb).emb (ix2 (x 1 : Fin 4096) (x 2 : Fin 256))) = _
  unfold Spec.slab
  congr 1
  funext a
  apply Fin.ext
  rw [Rect.emb_apply]
  match a with
  | ⟨0, _⟩ => show 0 + 1 * (x 1 : Fin 4096).val = (x 1 : Fin 4096).val; omega
  | ⟨1, _⟩ => show 256 * j.val + 1 * (x 2 : Fin 256).val = 256 * j.val + (x 2 : Fin 256).val; omega

/-- The load of plane 0 reads slab 0. -/
theorem v328_eq (c : Dev nD) (arg13 : Memref sig .tc .vmem S9x4096x256 .fp8e4m3) (fh2 : HbBuf0 (F := F) c hbM0_2)
    (fs2 : arg13.view.ty.Contents (Elt F)) : bodyRun.sl.v328 c arg13 fh2 fs2 = Spec.slab fh2 0 := by
  funext x
  unfold bodyRun.sl.v328
  refine (congrArg (View.read (Elt F) arg13.view _) (slab_idx ![0, 0, 0] _ 0 rfl x)).trans ?_
  refine (read_write_plane arg13 _ _ _ 8 rfl _ _ 0 _ _).trans ?_
  rw [if_neg (by decide)]
  refine (read_write_plane arg13 _ _ _ 7 rfl _ _ 0 _ _).trans ?_
  rw [if_neg (by decide)]
  refine (read_write_plane arg13 _ _ _ 6 rfl _ _ 0 _ _).trans ?_
  rw [if_neg (by decide)]
  refine (read_write_plane arg13 _ _ _ 5 rfl _ _ 0 _ _).trans ?_
  rw [if_neg (by decide)]
  refine (read_write_plane arg13 _ _ _ 4 rfl _ _ 0 _ _).trans ?_
  rw [if_neg (by decide)]
  refine (read_write_plane arg13 _ _ _ 3 rfl _ _ 0 _ _).trans ?_
  rw [if_neg (by decide)]
  refine (read_write_plane arg13 _ _ _ 2 rfl _ _ 0 _ _).trans ?_
  rw [if_neg (by decide)]
  refine (read_write_plane arg13 _ _ _ 1 rfl _ _ 0 _ _).trans ?_
  rw [if_neg (by decide)]
  refine (read_write_plane arg13 _ _ _ 0 rfl _ _ 0 _ _).trans ?_
  rw [if_pos rfl]
  exact copy_apply _ _ _ c fh2 0 rfl x

/-- The load of plane 1 reads slab 1. -/
theorem v366_eq (c : Dev nD) (arg13 : Memref sig .tc .vmem S9x4096x256 .fp8e4m3) (fh2 : HbBuf0 (F := F) c hbM0_2)
    (fs2 : arg13.view.ty.Contents (Elt F)) : bodyRun.sl.v366 c arg13 fh2 fs2 = Spec.slab fh2 1 := by
  funext x
  unfold bodyRun.sl.v366
  refine (congrArg (View.read (Elt F) arg13.view _) (slab_idx ![1, 0, 0] _ 1 rfl x)).trans ?_
  refine (read_write_plane arg13 _ _ _ 8 rfl _ _ 1 _ _).trans ?_
  rw [if_neg (by decide)]
  refine (read_write_plane arg13 _ _ _ 7 rfl _ _ 1 _ _).trans ?_
  rw [if_neg (by decide)]
  refine (read_write_plane arg13 _ _ _ 6 rfl _ _ 1 _ _).trans ?_
  rw [if_neg (by decide)]
  refine (read_write_plane arg13 _ _ _ 5 rfl _ _ 1 _ _).trans ?_
  rw [if_neg (by decide)]
  refine (read_write_plane arg13 _ _ _ 4 rfl _ _ 1 _ _).trans ?_
  rw [if_neg (by decide)]
  refine (read_write_plane arg13 _ _ _ 3 rfl _ _ 1 _ _).trans ?_
  rw [if_neg (by decide)]
  refine (read_write_plane arg13 _ _ _ 2 rfl _ _ 1 _ _).trans ?_
  rw [if_neg (by decide)]
  refine (read_write_plane arg13 _ _ _ 1 rfl _ _ 1 _ _).trans ?_
  rw [if_pos rfl]
  exact copy_apply _ _ _ c fh2 1 rfl x

/-- The load of plane 2 reads slab 2. -/
theorem v404_eq (c : Dev nD) (arg13 : Memref sig .tc .vmem S9x4096x256 .fp8e4m3) (fh2 : HbBuf0 (F := F) c hbM0_2)
    (fs2 : arg13.view.ty.Contents (Elt F)) : bodyRun.sl.v404 c arg13 fh2 fs2 = Spec.slab fh2 2 := by
  funext x
  unfold bodyRun.sl.v404
  refine (congrArg (View.read (Elt F) arg13.view _) (slab_idx ![2, 0, 0] _ 2 rfl x)).trans ?_
  refine (read_write_plane arg13 _ _ _ 8 rfl _ _ 2 _ _).trans ?_
  rw [if_neg (by decide)]
  refine (read_write_plane arg13 _ _ _ 7 rfl _ _ 2 _ _).trans ?_
  rw [if_neg (by decide)]
  refine (read_write_plane arg13 _ _ _ 6 rfl _ _ 2 _ _).trans ?_
  rw [if_neg (by decide)]
  refine (read_write_plane arg13 _ _ _ 5 rfl _ _ 2 _ _).trans ?_
  rw [if_neg (by decide)]
  refine (read_write_plane arg13 _ _ _ 4 rfl _ _ 2 _ _).trans ?_
  rw [if_neg (by decide)]
  refine (read_write_plane arg13 _ _ _ 3 rfl _ _ 2 _ _).trans ?_
  rw [if_neg (by decide)]
  refine (read_write_plane arg13 _ _ _ 2 rfl _ _ 2 _ _).trans ?_
  rw [if_pos rfl]
  exact copy_apply _ _ _ c fh2 2 rfl x

/-- The load of plane 3 reads slab 3. -/
theorem v442_eq (c : Dev nD) (arg13 : Memref sig .tc .vmem S9x4096x256 .fp8e4m3) (fh2 : HbBuf0 (F := F) c hbM0_2)
    (fs2 : arg13.view.ty.Contents (Elt F)) : bodyRun.sl.v442 c arg13 fh2 fs2 = Spec.slab fh2 3 := by
  funext x
  unfold bodyRun.sl.v442
  refine (congrArg (View.read (Elt F) arg13.view _) (slab_idx ![3, 0, 0] _ 3 rfl x)).trans ?_
  refine (read_write_plane arg13 _ _ _ 8 rfl _ _ 3 _ _).trans ?_
  rw [if_neg (by decide)]
  refine (read_write_plane arg13 _ _ _ 7 rfl _ _ 3 _ _).trans ?_
  rw [if_neg (by decide)]
  refine (read_write_plane arg13 _ _ _ 6 rfl _ _ 3 _ _).trans ?_
  rw [if_neg (by decide)]
  refine (read_write_plane arg13 _ _ _ 5 rfl _ _ 3 _ _).trans ?_
  rw [if_neg (by decide)]
  refine (read_write_plane arg13 _ _ _ 4 rfl _ _ 3 _ _).trans ?_
  rw [if_neg (by decide)]
  refine (read_write_plane arg13 _ _ _ 3 rfl _ _ 3 _ _).trans ?_
  rw [if_pos rfl]
  exact copy_apply _ _ _ c fh2 3 rfl x

/-- The load of plane 4 reads slab 4. -/
theorem v480_eq (c : Dev nD) (arg13 : Memref sig .tc .vmem S9x4096x256 .fp8e4m3) (fh2 : HbBuf0 (F := F) c hbM0_2)
    (fs2 : arg13.view.ty.Contents (Elt F)) : bodyRun.sl.v480 c arg13 fh2 fs2 = Spec.slab fh2 4 := by
  funext x
  unfold bodyRun.sl.v480
  refine (congrArg (View.read (Elt F) arg13.view _) (slab_idx ![4, 0, 0] _ 4 rfl x)).trans ?_
  refine (read_write_plane arg13 _ _ _ 8 rfl _ _ 4 _ _).trans ?_
  rw [if_neg (by decide)]
  refine (read_write_plane arg13 _ _ _ 7 rfl _ _ 4 _ _).trans ?_
  rw [if_neg (by decide)]
  refine (read_write_plane arg13 _ _ _ 6 rfl _ _ 4 _ _).trans ?_
  rw [if_neg (by decide)]
  refine (read_write_plane arg13 _ _ _ 5 rfl _ _ 4 _ _).trans ?_
  rw [if_neg (by decide)]
  refine (read_write_plane arg13 _ _ _ 4 rfl _ _ 4 _ _).trans ?_
  rw [if_pos rfl]
  exact copy_apply _ _ _ c fh2 4 rfl x

/-- The load of plane 5 reads slab 5. -/
theorem v518_eq (c : Dev nD) (arg13 : Memref sig .tc .vmem S9x4096x256 .fp8e4m3) (fh2 : HbBuf0 (F := F) c hbM0_2)
    (fs2 : arg13.view.ty.Contents (Elt F)) : bodyRun.sl.v518 c arg13 fh2 fs2 = Spec.slab fh2 5 := by
  funext x
  unfold bodyRun.sl.v518
  refine (congrArg (View.read (Elt F) arg13.view _) (slab_idx ![5, 0, 0] _ 5 rfl x)).trans ?_
  refine (read_write_plane arg13 _ _ _ 8 rfl _ _ 5 _ _).trans ?_
  rw [if_neg (by decide)]
  refine (read_write_plane arg13 _ _ _ 7 rfl _ _ 5 _ _).trans ?_
  rw [if_neg (by decide)]
  refine (read_write_plane arg13 _ _ _ 6 rfl _ _ 5 _ _).trans ?_
  rw [if_neg (by decide)]
  refine (read_write_plane arg13 _ _ _ 5 rfl _ _ 5 _ _).trans ?_
  rw [if_pos rfl]
  exact copy_apply _ _ _ c fh2 5 rfl x

/-- The load of plane 6 reads slab 6. -/
theorem v556_eq (c : Dev nD) (arg13 : Memref sig .tc .vmem S9x4096x256 .fp8e4m3) (fh2 : HbBuf0 (F := F) c hbM0_2)
    (fs2 : arg13.view.ty.Contents (Elt F)) : bodyRun.sl.v556 c arg13 fh2 fs2 = Spec.slab fh2 6 := by
  funext x
  unfold bodyRun.sl.v556
  refine (congrArg (View.read (Elt F) arg13.view _) (slab_idx ![6, 0, 0] _ 6 rfl x)).trans ?_
  refine (read_write_plane arg13 _ _ _ 8 rfl _ _ 6 _ _).trans ?_
  rw [if_neg (by decide)]
  refine (read_write_plane arg13 _ _ _ 7 rfl _ _ 6 _ _).trans ?_
  rw [if_neg (by decide)]
  refine (read_write_plane arg13 _ _ _ 6 rfl _ _ 6 _ _).trans ?_
  rw [if_pos rfl]
  exact copy_apply _ _ _ c fh2 6 rfl x

/-- The load of plane 7 reads slab 7. -/
theorem v594_eq (c : Dev nD) (arg13 : Memref sig .tc .vmem S9x4096x256 .fp8e4m3) (fh2 : HbBuf0 (F := F) c hbM0_2)
    (fs2 : arg13.view.ty.Contents (Elt F)) : bodyRun.sl.v594 c arg13 fh2 fs2 = Spec.slab fh2 7 := by
  funext x
  unfold bodyRun.sl.v594
  refine (congrArg (View.read (Elt F) arg13.view _) (slab_idx ![7, 0, 0] _ 7 rfl x)).trans ?_
  refine (read_write_plane arg13 _ _ _ 8 rfl _ _ 7 _ _).trans ?_
  rw [if_neg (by decide)]
  refine (read_write_plane arg13 _ _ _ 7 rfl _ _ 7 _ _).trans ?_
  rw [if_pos rfl]
  exact copy_apply _ _ _ c fh2 7 rfl x

/-- The load of plane 8 reads slab 8. -/
theorem v632_eq (c : Dev nD) (arg13 : Memref sig .tc .vmem S9x4096x256 .fp8e4m3) (fh2 : HbBuf0 (F := F) c hbM0_2)
    (fs2 : arg13.view.ty.Contents (Elt F)) : bodyRun.sl.v632 c arg13 fh2 fs2 = Spec.slab fh2 8 := by
  funext x
  unfold bodyRun.sl.v632
  refine (congrArg (View.read (Elt F) arg13.view _) (slab_idx ![8, 0, 0] _ 8 rfl x)).trans ?_
  refine (read_write_plane arg13 _ _ _ 8 rfl _ _ 8 _ _).trans ?_
  rw [if_pos rfl]
  exact copy_apply _ _ _ c fh2 8 rfl x

end Cert.KernelIdeal.Run

end
-- ==== Proof.Loads.lean ====
/- What the body's run leaves in each output's buffer is the function of the operands that Spec.lean names. -/
module

public import proofs.«01_k».proof.Proof.Slabs
public import Idealize.ShloMosaic.Lib.Pipeline.Value

@[expose] public section

set_option maxRecDepth 16384

noncomputable section

namespace Cert.KernelIdeal.Run

open Idealize.ShloMosaic Idealize.ShloMosaic.TcCoe
open Idealize.ShloMosaic.ValueIdx (ix2 ix3 eq_ix3)
open Cert.KernelIdeal.Gen

variable {F : FTy → Type} [FloatOps F]

/-! ## What the body loads -/

/-- The zero offsets of rank two. -/
theorem zero2 : (![0, 0] : Fin 2 → ℕ) = fun _ => 0 := by funext a; match a with | ⟨0, _⟩ => rfl | ⟨1, _⟩ => rfl

/-- A load of the whole of a buffer that one copy filled reads the copy. -/
theorem readCov_whole {s : Shape} {e : EltTy} {sp : Space} (M : Memref sig .tc sp s e) (w : s.Idx → Elt F e) (off : Fin s.rank → ℕ)
    (inb : ∀ a, off a + s.size a ≤ s.size a) (h : off = fun _ => 0) :
    M.view.readCov [(⟨Rect.whole s, w⟩ : View.Piece (Elt F) s e)] (Rect.unit off s.size inb).toLoadRect = w := by
  subst h
  exact View.readCov_unit_zero _ rfl _ w

/-- What the load of the positions reads. -/
theorem v69_eq (c : Dev nD) (arg15 : Memref sig .tc .vmem S1x256 .i32) (fh4 : HbBuf0 (F := F) c hbM0_4) :
    bodyRun.sl.v69 c arg15 fh4 = fh4 := readCov_whole arg15 _ _ _ zero2
/-- What the load of the frequencies reads. -/
theorem v74_eq (c : Dev nD) (arg16 : Memref sig .tc .vmem S1x128 .f32) (fh5 : HbBuf0 (F := F) c hbM0_5) :
    bodyRun.sl.v74 c arg16 fh5 = fh5 := readCov_whole arg16 _ _ _ zero2
/-- What the load of the gain reads. -/
theorem v107_eq (c : Dev nD) (arg12 : Memref sig .tc .vmem S1x4096 .f32) (fh1 : HbBuf0 (F := F) c hbM0_1) :
    bodyRun.sl.v107 c arg12 fh1 = fh1 := readCov_whole arg12 _ _ _ zero2

/-- The first chunk's load of the activations. -/
theorem v95_eq (c : Dev nD) (arg11 : Memref sig .tc .vmem S256x4096 .bf16) (fh0 : HbBuf0 (F := F) c hbM0_0) :
    bodyRun.sl.v95 c arg11 fh0 = Spec.xLo fh0 := by
  unfold bodyRun.sl.v95
  refine (View.readCov_cons_of_disjoint _ _ _ _ ?_).trans ?_
  · exact Rect.unit_disjoint (inb := inb_S256x4096_S128x4096_128_0) 0 (.inr (by decide))
  · exact View.readCov_cons_toLoadRect _ _ _ _
/-- The second chunk's load of the activations. -/
theorem v208_eq (c : Dev nD) (arg11 : Memref sig .tc .vmem S256x4096 .bf16) (fh0 : HbBuf0 (F := F) c hbM0_0) :
    bodyRun.sl.v208 c arg11 fh0 = Spec.xHi fh0 := by
  unfold bodyRun.sl.v208
  exact View.readCov_cons_toLoadRect _ _ _ _

/-- A load of 128 weight scales reads them from the operand. -/
theorem ws_eq (c : Dev nD) (arg14 : Memref sig .tc .vmem S1x2304 .f32) (fh3 : HbBuf0 (F := F) c hbM0_3) (o : Fin 2177)
    (off : Fin 2 → ℕ) (inb) (h : off = ![0, o.val]) :
    arg14.view.readCov [(⟨Rect.whole S1x2304, bodyRun.sl.dma0_5 c fh3⟩ : View.Piece (Elt F) S1x2304 .f32)]
      (Rect.unit (s := S1x2304) off S1x128.size inb).toLoadRect = Spec.wsAt fh3 o := by
  subst h
  rw [View.readCov_eq_canon']
  funext x
  refine (congrFun (View.canon_unit_zero (S := S1x2304) (off := fun _ => 0) rfl _ (bodyRun.sl.dma0_5 c fh3)) _).trans ?_
  unfold Spec.wsAt
  show fh3 _ = fh3 _
  congr 1
  funext a
  apply Fin.ext
  show ((Rect.unit (s := S1x2304) ![0, o.val] S1x128.size inb).emb x a).val = _
  rw [Rect.emb_apply]
  match a with
  | ⟨0, _⟩ => show 0 + 1 * (x 0).val = (x 0).val; omega
  | ⟨1, _⟩ => show o.val + 1 * (x 1).val = o.val + (x 1).val; omega

/-! ## What it stores on the way -/

/-- What the two stores leave in the buffer of the codes. -/
theorem H3_2_eq (c : Dev nD) (arg11 : Memref sig .tc .vmem S256x4096 .bf16) (arg12 : Memref sig .tc .vmem S1x4096 .f32)
    (fh0 : HbBuf0 (F := F) c hbM0_0) (fh1 : HbBuf0 (F := F) c hbM0_1) :
    bodyRun.sl.H3_2 c arg11 arg12 fh0 fh1 = Spec.codesL fh0 fh1 := by
  unfold bodyRun.sl.H3_2 bodyRun.sl.r_2 bodyRun.sl.r_4 bodyRun.sl.r_3 bodyRun.sl.r_5 bodyRun.sl.r_10 bodyRun.sl.r_11
    bodyRun.sl.r_6 bodyRun.sl.r_7 bodyRun.sl.r_8 bodyRun.sl.r_9
  rw [v95_eq, v107_eq, v208_eq]
  rfl
/-- What the two stores leave in the buffer of the row scales. -/
theorem HS8_2_eq (c : Dev nD) (arg11 : Memref sig .tc .vmem S256x4096 .bf16) (arg12 : Memref sig .tc .vmem S1x4096 .f32)
    (fh0 : HbBuf0 (F := F) c hbM0_0) (fh1 : HbBuf0 (F := F) c hbM0_1) :
    bodyRun.sl.HS8_2 c arg11 arg12 fh0 fh1 = Spec.rowscaleL fh0 fh1 := by
  unfold bodyRun.sl.HS8_2 bodyRun.sl.r_4 bodyRun.sl.r_3 bodyRun.sl.r_11 bodyRun.sl.r_12
    bodyRun.sl.r_6 bodyRun.sl.r_7 bodyRun.sl.r_8 bodyRun.sl.r_9
  rw [v95_eq, v107_eq, v208_eq]
  rfl

/-- What the load of the codes reads. -/
theorem v_eq (c : Dev nD) (arg9 : Memref sig .tc .vmem S256x4096 .fp8e4m3) (arg11 : Memref sig .tc .vmem S256x4096 .bf16) (arg12 : Memref sig .tc .vmem S1x4096 .f32)
    (fh0 : HbBuf0 (F := F) c hbM0_0) (fh1 : HbBuf0 (F := F) c hbM0_1) :
    bodyRun.sl.v c arg9 arg11 arg12 fh0 fh1 = Spec.codes fh0 fh1 := by
  unfold bodyRun.sl.v
  rw [View.readCov_eq_canon', H3_2_eq]
  exact View.ld_unit_zero zero2 _ _
/-- What the load of the row scales reads. -/
theorem v317_eq (c : Dev nD) (arg11 : Memref sig .tc .vmem S256x4096 .bf16) (arg12 : Memref sig .tc .vmem S1x4096 .f32)
    (arg19 : Memref sig .tc .vmem S256x128 .f32)
    (fh0 : HbBuf0 (F := F) c hbM0_0) (fh1 : HbBuf0 (F := F) c hbM0_1) :
    bodyRun.sl.v317 c arg11 arg12 arg19 fh0 fh1 = Spec.rowscale fh0 fh1 := by
  unfold bodyRun.sl.v317
  rw [View.readCov_eq_canon', HS8_2_eq]
  exact View.ld_unit_zero zero2 _ _

/-- What the load of the cosines reads. -/
theorem v343_eq (c : Dev nD) (arg15 : Memref sig .tc .vmem S1x256 .i32) (arg16 : Memref sig .tc .vmem S1x128 .f32) (arg17 : Memref sig .tc .vmem S256x128 .f32)
    (fh4 : HbBuf0 (F := F) c hbM0_4) (fh5 : HbBuf0 (F := F) c hbM0_5) :
    bodyRun.sl.v343 c arg15 arg16 arg17 fh4 fh5 = Spec.cosT fh4 fh5 := by
  unfold bodyRun.sl.v343 bodyRun.sl.HS6_1 bodyRun.sl.r_1
  rw [v69_eq, v74_eq]
  exact View.readCov_unit_zero _ zero2 _ _
/-- What the load of the sines reads. -/
theorem v346_eq (c : Dev nD) (arg15 : Memref sig .tc .vmem S1x256 .i32) (arg16 : Memref sig .tc .vmem S1x128 .f32) (arg18 : Memref sig .tc .vmem S256x128 .f32)
    (fh4 : HbBuf0 (F := F) c hbM0_4) (fh5 : HbBuf0 (F := F) c hbM0_5) :
    bodyRun.sl.v346 c arg15 arg16 arg18 fh4 fh5 = Spec.sinT fh4 fh5 := by
  unfold bodyRun.sl.v346 bodyRun.sl.HS7_1 bodyRun.sl.r
  rw [v69_eq, v74_eq]
  exact View.readCov_unit_zero _ zero2 _ _
/-- What this load of 128 weight scales reads. -/
theorem v334_eq (c : Dev nD) (arg14 : Memref sig .tc .vmem S1x2304 .f32) (fh3 : HbBuf0 (F := F) c hbM0_3) :
    bodyRun.sl.v334 c arg14 fh3 = Spec.wsAt fh3 0 := ws_eq c arg14 fh3 0 _ _ rfl
/-- What this load of 128 weight scales reads. -/
theorem v340_eq (c : Dev nD) (arg14 : Memref sig .tc .vmem S1x2304 .f32) (fh3 : HbBuf0 (F := F) c hbM0_3) :
    bodyRun.sl.v340 c arg14 fh3 = Spec.wsAt fh3 128 := ws_eq c arg14 fh3 128 _ _ rfl
/-- What this load of 128 weight scales reads. -/
theorem v372_eq (c : Dev nD) (arg14 : Memref sig .tc .vmem S1x2304 .f32) (fh3 : HbBuf0 (F := F) c hbM0_3) :
    bodyRun.sl.v372 c arg14 fh3 = Spec.wsAt fh3 256 := ws_eq c arg14 fh3 256 _ _ rfl
/-- What this load of 128 weight scales reads. -/
theorem v378_eq (c : Dev nD) (arg14 : Memref sig .tc .vmem S1x2304 .f32) (fh3 : HbBuf0 (F := F) c hbM0_3) :
    bodyRun.sl.v378 c arg14 fh3 = Spec.wsAt fh3 384 := ws_eq c arg14 fh3 384 _ _ rfl
/-- What this load of 128 weight scales reads. -/
theorem v410_eq (c : Dev nD) (arg14 : Memref sig .tc .vmem S1x2304 .f32) (fh3 : HbBuf0 (F := F) c hbM0_3) :
    bodyRun.sl.v410 c arg14 fh3 = Spec.wsAt fh3 512 := ws_eq c arg14 fh3 512 _ _ rfl
/-- What this load of 128 weight scales reads. -/
theorem v416_eq (c : Dev nD) (arg14 : Memref sig .tc .vmem S1x2304 .f32) (fh3 : HbBuf0 (F := F) c hbM0_3) :
    bodyRun.sl.v416 c arg14 fh3 = Spec.wsAt fh3 640 := ws_eq c arg14 fh3 640 _ _ rfl
/-- What this load of 128 weight scales reads. -/
theorem v448_eq (c : Dev nD) (arg14 : Memref sig .tc .vmem S1x2304 .f32) (fh3 : HbBuf0 (F := F) c hbM0_3) :
    bodyRun.sl.v448 c arg14 fh3 = Spec.wsAt fh3 768 := ws_eq c arg14 fh3 768 _ _ rfl
/-- What this load of 128 weight scales reads. -/
theorem v454_eq (c : Dev nD) (arg14 : Memref sig .tc .vmem S1x2304 .f32) (fh3 : HbBuf0 (F := F) c hbM0_3) :
    bodyRun.sl.v454 c arg14 fh3 = Spec.wsAt fh3 896 := ws_eq c arg14 fh3 896 _ _ rfl
/-- What this load of 128 weight scales reads. -/
theorem v486_eq (c : Dev nD) (arg14 : Memref sig .tc .vmem S1x2304 .f32) (fh3 : HbBuf0 (F := F) c hbM0_3) :
    bodyRun.sl.v486 c arg14 fh3 = Spec.wsAt fh3 1024 := ws_eq c arg14 fh3 1024 _ _ rfl
/-- What this load of 128 weight scales reads. -/
theorem v492_eq (c : Dev nD) (arg14 : Memref sig .tc .vmem S1x2304 .f32) (fh3 : HbBuf0 (F := F) c hbM0_3) :
    bodyRun.sl.v492 c arg14 fh3 = Spec.wsAt fh3 1152 := ws_eq c arg14 fh3 1152 _ _ rfl
/-- What this load of 128 weight scales reads. -/
theorem v524_eq (c : Dev nD) (arg14 : Memref sig .tc .vmem S1x2304 .f32) (fh3 : HbBuf0 (F := F) c hbM0_3) :
    bodyRun.sl.v524 c arg14 fh3 = Spec.wsAt fh3 1280 := ws_eq c arg14 fh3 1280 _ _ rfl
/-- What this load of 128 weight scales reads. -/
theorem v530_eq (c : Dev nD) (arg14 : Memref sig .tc .vmem S1x2304 .f32) (fh3 : HbBuf0 (F := F) c hbM0_3) :
    bodyRun.sl.v530 c arg14 fh3 = Spec.wsAt fh3 1408 := ws_eq c arg14 fh3 1408 _ _ rfl
/-- What this load of 128 weight scales reads. -/
theorem v562_eq (c : Dev nD) (arg14 : Memref sig .tc .vmem S1x2304 .f32) (fh3 : HbBuf0 (F := F) c hbM0_3) :
    bodyRun.sl.v562 c arg14 fh3 = Spec.wsAt fh3 1536 := ws_eq c arg14 fh3 1536 _ _ rfl
/-- What this load of 128 weight scales reads. -/
theorem v568_eq (c : Dev nD) (arg14 : Memref sig .tc .vmem S1x2304 .f32) (fh3 : HbBuf0 (F := F) c hbM0_3) :
    bodyRun.sl.v568 c arg14 fh3 = Spec.wsAt fh3 1664 := ws_eq c arg14 fh3 1664 _ _ rfl
/-- What this load of 128 weight scales reads. -/
theorem v600_eq (c : Dev nD) (arg14 : Memref sig .tc .vmem S1x2304 .f32) (fh3 : HbBuf0 (F := F) c hbM0_3) :
    bodyRun.sl.v600 c arg14 fh3 = Spec.wsAt fh3 1792 := ws_eq c arg14 fh3 1792 _ _ rfl
/-- What this load of 128 weight scales reads. -/
theorem v606_eq (c : Dev nD) (arg14 : Memref sig .tc .vmem S1x2304 .f32) (fh3 : HbBuf0 (F := F) c hbM0_3) :
    bodyRun.sl.v606 c arg14 fh3 = Spec.wsAt fh3 1920 := ws_eq c arg14 fh3 1920 _ _ rfl
/-- What this load of 128 weight scales reads. -/
theorem v638_eq (c : Dev nD) (arg14 : Memref sig .tc .vmem S1x2304 .f32) (fh3 : HbBuf0 (F := F) c hbM0_3) :
    bodyRun.sl.v638 c arg14 fh3 = Spec.wsAt fh3 2048 := ws_eq c arg14 fh3 2048 _ _ rfl
/-- What this load of 128 weight scales reads. -/
theorem v644_eq (c : Dev nD) (arg14 : Memref sig .tc .vmem S1x2304 .f32) (fh3 : HbBuf0 (F := F) c hbM0_3) :
    bodyRun.sl.v644 c arg14 fh3 = Spec.wsAt fh3 2176 := ws_eq c arg14 fh3 2176 _ _ rfl
end Cert.KernelIdeal.Run

end
-- ==== Proof.Outs.lean ====
/- What the body's run leaves in each output's buffer is the function of the operands that Spec.lean names. -/
module

public import proofs.«01_k».proof.Proof.Loads

@[expose] public section

set_option maxRecDepth 16384

noncomputable section

namespace Cert.KernelIdeal.Run

open Idealize.ShloMosaic Idealize.ShloMosaic.TcCoe
open Cert.KernelIdeal.Gen

variable {F : FTy → Type} [FloatOps F]

/-- The query heads' pieces. -/
theorem out6_eq (c : Dev nD) (arg6 : Memref sig .tc .vmem S256x16x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x4096 .fp8e4m3) (harg9 : arg9.IsWhole) (arg10 : Memref sig .tc .vmem S1x256 .f32) (harg10 : arg10.IsWhole) (arg11 : Memref sig .tc .vmem S256x4096 .bf16) (harg11 : arg11.IsWhole) (arg12 : Memref sig .tc .vmem S1x4096 .f32) (harg12 : arg12.IsWhole) (arg13 : Memref sig .tc .vmem S9x4096x256 .fp8e4m3) (harg13 : arg13.IsWhole) (arg14 : Memref sig .tc .vmem S1x2304 .f32) (harg14 : arg14.IsWhole) (arg15 : Memref sig .tc .vmem S1x256 .i32) (harg15 : arg15.IsWhole) (arg16 : Memref sig .tc .vmem S1x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole)
    (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5)
    (g : arg13.view.ty.Contents (Elt F)) :
    (bodyRun c arg6 harg6 arg7 harg7 arg8 harg8 arg9 harg9 arg10 harg10 arg11 harg11 arg12 harg12 arg13 harg13 arg14 harg14 arg15 harg15 arg16 harg16 arg17 harg17 arg18 harg18 arg19 harg19 fh0 fh1 fh2 fh3 fh4 fh5).1.1 g = Spec.qL fh0 fh1 fh2 fh3 fh4 fh5 := by
  show [_, _, _, _, _, _, _, _] = _
  unfold bodyRun.sl.r_13 bodyRun.sl.r_14 bodyRun.sl.r_15 bodyRun.sl.r_16 bodyRun.sl.r_17 bodyRun.sl.r_18 bodyRun.sl.r_19 bodyRun.sl.r_20 bodyRun.sl.r_21 bodyRun.sl.r_22 bodyRun.sl.r_23 bodyRun.sl.r_24 bodyRun.sl.r_25 bodyRun.sl.r_26 bodyRun.sl.r_27 bodyRun.sl.r_28
  simp only [v_eq, v317_eq, v343_eq, v346_eq, v328_eq, v366_eq, v404_eq, v442_eq, v480_eq, v518_eq, v556_eq, v594_eq, v334_eq, v340_eq, v372_eq, v378_eq, v410_eq, v416_eq, v448_eq, v454_eq, v486_eq, v492_eq, v524_eq, v530_eq, v562_eq, v568_eq, v600_eq, v606_eq]
  rfl
/-- The key head's one piece. -/
theorem out7_eq (c : Dev nD) (arg6 : Memref sig .tc .vmem S256x16x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x4096 .fp8e4m3) (harg9 : arg9.IsWhole) (arg10 : Memref sig .tc .vmem S1x256 .f32) (harg10 : arg10.IsWhole) (arg11 : Memref sig .tc .vmem S256x4096 .bf16) (harg11 : arg11.IsWhole) (arg12 : Memref sig .tc .vmem S1x4096 .f32) (harg12 : arg12.IsWhole) (arg13 : Memref sig .tc .vmem S9x4096x256 .fp8e4m3) (harg13 : arg13.IsWhole) (arg14 : Memref sig .tc .vmem S1x2304 .f32) (harg14 : arg14.IsWhole) (arg15 : Memref sig .tc .vmem S1x256 .i32) (harg15 : arg15.IsWhole) (arg16 : Memref sig .tc .vmem S1x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole)
    (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5)
    (g : arg13.view.ty.Contents (Elt F)) :
    (bodyRun c arg6 harg6 arg7 harg7 arg8 harg8 arg9 harg9 arg10 harg10 arg11 harg11 arg12 harg12 arg13 harg13 arg14 harg14 arg15 harg15 arg16 harg16 arg17 harg17 arg18 harg18 arg19 harg19 fh0 fh1 fh2 fh3 fh4 fh5).1.2.1 g = [⟨Rect.unit (s := S256x128) ![0, 0] S256x128.size inb_S256x128_S256x128_0_0, Spec.kV fh0 fh1 fh2 fh3 fh4 fh5⟩] := by
  show [_] = _
  unfold bodyRun.sl.r_29
  rw [v_eq, v317_eq, v343_eq, v346_eq, v632_eq, v638_eq]
  rfl
/-- The value head's one piece. -/
theorem out8_eq (c : Dev nD) (arg6 : Memref sig .tc .vmem S256x16x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x4096 .fp8e4m3) (harg9 : arg9.IsWhole) (arg10 : Memref sig .tc .vmem S1x256 .f32) (harg10 : arg10.IsWhole) (arg11 : Memref sig .tc .vmem S256x4096 .bf16) (harg11 : arg11.IsWhole) (arg12 : Memref sig .tc .vmem S1x4096 .f32) (harg12 : arg12.IsWhole) (arg13 : Memref sig .tc .vmem S9x4096x256 .fp8e4m3) (harg13 : arg13.IsWhole) (arg14 : Memref sig .tc .vmem S1x2304 .f32) (harg14 : arg14.IsWhole) (arg15 : Memref sig .tc .vmem S1x256 .i32) (harg15 : arg15.IsWhole) (arg16 : Memref sig .tc .vmem S1x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole)
    (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5)
    (g : arg13.view.ty.Contents (Elt F)) :
    (bodyRun c arg6 harg6 arg7 harg7 arg8 harg8 arg9 harg9 arg10 harg10 arg11 harg11 arg12 harg12 arg13 harg13 arg14 harg14 arg15 harg15 arg16 harg16 arg17 harg17 arg18 harg18 arg19 harg19 fh0 fh1 fh2 fh3 fh4 fh5).1.2.2.1 g = [⟨Rect.unit (s := S256x128) ![0, 0] S256x128.size inb_S256x128_S256x128_0_0, Spec.vV fh0 fh1 fh2 fh3⟩] := by
  show [_] = _
  unfold bodyRun.sl.r_29
  rw [v_eq, v317_eq, v632_eq, v644_eq]
  rfl
/-- The codes' two pieces. -/
theorem out9_eq (c : Dev nD) (arg6 : Memref sig .tc .vmem S256x16x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x4096 .fp8e4m3) (harg9 : arg9.IsWhole) (arg10 : Memref sig .tc .vmem S1x256 .f32) (harg10 : arg10.IsWhole) (arg11 : Memref sig .tc .vmem S256x4096 .bf16) (harg11 : arg11.IsWhole) (arg12 : Memref sig .tc .vmem S1x4096 .f32) (harg12 : arg12.IsWhole) (arg13 : Memref sig .tc .vmem S9x4096x256 .fp8e4m3) (harg13 : arg13.IsWhole) (arg14 : Memref sig .tc .vmem S1x2304 .f32) (harg14 : arg14.IsWhole) (arg15 : Memref sig .tc .vmem S1x256 .i32) (harg15 : arg15.IsWhole) (arg16 : Memref sig .tc .vmem S1x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole)
    (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5)
    (g : arg13.view.ty.Contents (Elt F)) :
    (bodyRun c arg6 harg6 arg7 harg7 arg8 harg8 arg9 harg9 arg10 harg10 arg11 harg11 arg12 harg12 arg13 harg13 arg14 harg14 arg15 harg15 arg16 harg16 arg17 harg17 arg18 harg18 arg19 harg19 fh0 fh1 fh2 fh3 fh4 fh5).1.2.2.2.1 g = Spec.codesL fh0 fh1 := by
  exact H3_2_eq c arg11 arg12 fh0 fh1
/-- The row scales' one piece. -/
theorem out10_eq (c : Dev nD) (arg6 : Memref sig .tc .vmem S256x16x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x4096 .fp8e4m3) (harg9 : arg9.IsWhole) (arg10 : Memref sig .tc .vmem S1x256 .f32) (harg10 : arg10.IsWhole) (arg11 : Memref sig .tc .vmem S256x4096 .bf16) (harg11 : arg11.IsWhole) (arg12 : Memref sig .tc .vmem S1x4096 .f32) (harg12 : arg12.IsWhole) (arg13 : Memref sig .tc .vmem S9x4096x256 .fp8e4m3) (harg13 : arg13.IsWhole) (arg14 : Memref sig .tc .vmem S1x2304 .f32) (harg14 : arg14.IsWhole) (arg15 : Memref sig .tc .vmem S1x256 .i32) (harg15 : arg15.IsWhole) (arg16 : Memref sig .tc .vmem S1x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole)
    (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5)
    (g : arg13.view.ty.Contents (Elt F)) :
    (bodyRun c arg6 harg6 arg7 harg7 arg8 harg8 arg9 harg9 arg10 harg10 arg11 harg11 arg12 harg12 arg13 harg13 arg14 harg14 arg15 harg15 arg16 harg16 arg17 harg17 arg18 harg18 arg19 harg19 fh0 fh1 fh2 fh3 fh4 fh5).1.2.2.2.2 g = [⟨Rect.unit (s := S1x256) ![0, 0] S1x256.size inb_S1x256_S1x256_0_0, Spec.scaleV fh0 fh1⟩] := by
  show [_] = _
  rw [v317_eq]
  rfl
end Cert.KernelIdeal.Run

end
-- ==== Proof.Launch.lean ====
/- The launch of the idealized kernel: the values it leaves in its five results, and its frame. -/
module

public import proofs.«01_k».proof.Proof.Outs
public import Idealize.ShloMosaic.Lib.Claim
public import Idealize.ShloMosaic.Lib.Pipeline.ValueKit.Geometry

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The pipeline's proof data -/

/-- The body's operands on core `c` as the region finds them. -/
abbrev opX (c : Dev nD) : Vec F S256x4096 .bf16 := V m c main_v0
/-- The gain. -/
abbrev opG (c : Dev nD) : Vec F S1x4096 .f32 := V m c main_v1
/-- The weight codes. -/
abbrev opW (c : Dev nD) : Vec F S4096x2304 .fp8e4m3 := V m c main_arg2
/-- The weight scales. -/
abbrev opS (c : Dev nD) : Vec F S1x2304 .f32 := V m c main_v2
/-- The positions. -/
abbrev opP (c : Dev nD) : Vec F S1x256 .i32 := V m c main_v3
/-- The frequencies. -/
abbrev opQ (c : Dev nD) : Vec F S1x128 .f32 := V m c main_cst

/-- The query heads' eight pieces cover their array: pair `i` of the heads is piece `i`'s. -/
theorem cover_q (X : Vec F S256x4096 .bf16) (G : Vec F S1x4096 .f32) (W : Vec F S4096x2304 .fp8e4m3) (S : Vec F S1x2304 .f32)
    (P : Vec F S1x256 .i32) (Q : Vec F S1x128 .f32) (y : S256x16x128.Idx) : ∃ p ∈ Spec.qL X G W S P Q, y ∈ p.1.set := by
  have h0 : (y 0).val < 256 := (y 0).isLt
  have h1 : (y 1).val < 16 := (y 1).isLt
  have h2 : (y 2).val < 128 := (y 2).isLt
  have key : ∀ (o : ℕ) (inb : ∀ a, ![0, o, 0] a + S256x2x128.size a ≤ S256x16x128.size a), o ≤ (y 1).val → (y 1).val < o + 2 →
      y ∈ (Rect.unit (s := S256x16x128) ![0, o, 0] S256x2x128.size inb).set := fun o inb ha hb => by
    rw [Rect.mem_set_unit]
    intro a
    match a with
    | ⟨0, _⟩ => exact ⟨Nat.zero_le _, by show (y 0).val < 0 + 256; omega⟩
    | ⟨1, _⟩ => exact ⟨ha, hb⟩
    | ⟨2, _⟩ => exact ⟨Nat.zero_le _, by show (y 2).val < 0 + 128; omega⟩
  unfold Spec.qL
  have : (y 1).val / 2 < 8 := by omega
  obtain h | h | h | h | h | h | h | h : (y 1).val / 2 = 7 ∨ (y 1).val / 2 = 6 ∨ (y 1).val / 2 = 5 ∨ (y 1).val / 2 = 4
      ∨ (y 1).val / 2 = 3 ∨ (y 1).val / 2 = 2 ∨ (y 1).val / 2 = 1 ∨ (y 1).val / 2 = 0 := by omega
  · exact ⟨_, List.Mem.head _, key 14 inb_S256x16x128_S256x2x128_0_14_0 (by omega) (by omega)⟩
  · exact ⟨_, List.Mem.tail _ (List.Mem.head _), key 12 inb_S256x16x128_S256x2x128_0_12_0 (by omega) (by omega)⟩
  · exact ⟨_, List.Mem.tail _ (List.Mem.tail _ (List.Mem.head _)), key 10 inb_S256x16x128_S256x2x128_0_10_0 (by omega) (by omega)⟩
  · exact ⟨_, List.Mem.tail _ (List.Mem.tail _ (List.Mem.tail _ (List.Mem.head _))), key 8 inb_S256x16x128_S256x2x128_0_8_0 (by omega) (by omega)⟩
  · exact ⟨_, List.Mem.tail _ (List.Mem.tail _ (List.Mem.tail _ (List.Mem.tail _ (List.Mem.head _)))), key 6 inb_S256x16x128_S256x2x128_0_6_0 (by omega) (by omega)⟩
  · exact ⟨_, List.Mem.tail _ (List.Mem.tail _ (List.Mem.tail _ (List.Mem.tail _ (List.Mem.tail _ (List.Mem.head _))))), key 4 inb_S256x16x128_S256x2x128_0_4_0 (by omega) (by omega)⟩
  · exact ⟨_, List.Mem.tail _ (List.Mem.tail _ (List.Mem.tail _ (List.Mem.tail _ (List.Mem.tail _ (List.Mem.tail _ (List.Mem.head _)))))), key 2 inb_S256x16x128_S256x2x128_0_2_0 (by omega) (by omega)⟩
  · exact ⟨_, List.Mem.tail _ (List.Mem.tail _ (List.Mem.tail _ (List.Mem.tail _ (List.Mem.tail _ (List.Mem.tail _ (List.Mem.tail _ (List.Mem.head _))))))), key 0 inb_S256x16x128_S256x2x128_0_0_0 (by omega) (by omega)⟩

/-- The codes' two pieces cover their array: each row is in one chunk. -/
theorem cover_codes (X : Vec F S256x4096 .bf16) (G : Vec F S1x4096 .f32) (y : S256x4096.Idx) : ∃ p ∈ Spec.codesL X G, y ∈ p.1.set := by
  have h0 : (y 0).val < 256 := (y 0).isLt
  have h1 : (y 1).val < 4096 := (y 1).isLt
  have key : ∀ (o : ℕ) (inb : ∀ a, ![o, 0] a + S128x4096.size a ≤ S256x4096.size a), o ≤ (y 0).val → (y 0).val < o + 128 →
      y ∈ (Rect.unit (s := S256x4096) ![o, 0] S128x4096.size inb).set := fun o inb ha hb => by
    rw [Rect.mem_set_unit]
    intro a
    match a with
    | ⟨0, _⟩ => exact ⟨ha, hb⟩
    | ⟨1, _⟩ => exact ⟨Nat.zero_le _, by show (y 1).val < 0 + 4096; omega⟩
  unfold Spec.codesL
  by_cases h : 128 ≤ (y 0).val
  · exact ⟨_, List.Mem.head _, key 128 inb_S256x4096_S128x4096_128_0 h (by omega)⟩
  · exact ⟨_, List.Mem.tail _ (List.Mem.head _), key 0 inb_S256x4096_S128x4096_0_0 (by omega) (by omega)⟩

/-- One piece that is the whole array, read back. -/
theorem read_whole_piece {s : Shape} {e : EltTy} {sp : Space} (M : Memref sig .tc sp s e) (f : M.view.ty.Contents (Elt F)) (w : s.Idx → Elt F e) (off : Fin s.rank → ℕ)
    (inb : ∀ a, off a + s.size a ≤ s.size a) (h : off = fun _ => 0) :
    M.view.read (Elt F) (M.view.writes (Elt F) f [(⟨Rect.unit off s.size inb, w⟩ : View.Piece (Elt F) s e)]) = w := by
  rw [View.read_writes_eq_canon _ _ _ fun y => ⟨_, List.mem_singleton_self _, View.mem_set_unit_zero h inb y⟩, View.canon_unit_zero h]

/-- Ownership at equal contents. -/
theorem owns_of_eq {c : Dev nD} {s : Shape} {e : EltTy} {sp : Space} {M : Memref sig .tc sp s e} {d d' : s.Idx → Elt F e} (h : d = d') :
    (owns (c : Thread nD τ) M fullShare d : sProp 𝕄) ⊢ owns (c : Thread nD τ) M fullShare d' := h ▸ .rfl

/-- What the run leaves in the buffer of the query heads. -/
theorem owns_out0 {c : Dev nD} {arg6 : Memref sig .tc .vmem S256x16x128 .bf16} {harg6 : arg6.IsWhole} {arg7 : Memref sig .tc .vmem S256x128 .bf16} {harg7 : arg7.IsWhole} {arg8 : Memref sig .tc .vmem S256x128 .bf16} {harg8 : arg8.IsWhole} {arg9 : Memref sig .tc .vmem S256x4096 .fp8e4m3} {harg9 : arg9.IsWhole} {arg10 : Memref sig .tc .vmem S1x256 .f32} {harg10 : arg10.IsWhole} {arg11 : Memref sig .tc .vmem S256x4096 .bf16} {harg11 : arg11.IsWhole} {arg12 : Memref sig .tc .vmem S1x4096 .f32} {harg12 : arg12.IsWhole} {arg13 : Memref sig .tc .vmem S9x4096x256 .fp8e4m3} {harg13 : arg13.IsWhole} {arg14 : Memref sig .tc .vmem S1x2304 .f32} {harg14 : arg14.IsWhole} {arg15 : Memref sig .tc .vmem S1x256 .i32} {harg15 : arg15.IsWhole} {arg16 : Memref sig .tc .vmem S1x128 .f32} {harg16 : arg16.IsWhole} {arg17 : Memref sig .tc .vmem S256x128 .f32} {harg17 : arg17.IsWhole} {arg18 : Memref sig .tc .vmem S256x128 .f32} {harg18 : arg18.IsWhole} {arg19 : Memref sig .tc .vmem S256x128 .f32} {harg19 : arg19.IsWhole}
    {fh0 : HbBuf0 (F := F) c hbM0_0} {fh1 : HbBuf0 (F := F) c hbM0_1} {fh2 : HbBuf0 (F := F) c hbM0_2} {fh3 : HbBuf0 (F := F) c hbM0_3} {fh4 : HbBuf0 (F := F) c hbM0_4} {fh5 : HbBuf0 (F := F) c hbM0_5}
    {g : arg13.view.ty.Contents (Elt F)} {f : arg6.view.ty.Contents (Elt F)} :
    (owns (c : Thread nD τ) arg6 fullShare (arg6.view.read (Elt F) (arg6.view.writes (Elt F) f ((bodyRun c arg6 harg6 arg7 harg7 arg8 harg8 arg9 harg9 arg10 harg10 arg11 harg11 arg12 harg12 arg13 harg13 arg14 harg14 arg15 harg15 arg16 harg16 arg17 harg17 arg18 harg18 arg19 harg19 fh0 fh1 fh2 fh3 fh4 fh5).1.1 g))) : sProp 𝕄)
      ⊢ owns (c : Thread nD τ) arg6 fullShare (Spec.qV fh0 fh1 fh2 fh3 fh4 fh5) :=
  owns_of_eq (by rw [out6_eq]; exact View.read_writes_eq_canon _ _ _ (cover_q _ _ _ _ _ _))

/-- What the run leaves in the buffer of the key head. -/
theorem owns_out1 {c : Dev nD} {arg6 : Memref sig .tc .vmem S256x16x128 .bf16} {harg6 : arg6.IsWhole} {arg7 : Memref sig .tc .vmem S256x128 .bf16} {harg7 : arg7.IsWhole} {arg8 : Memref sig .tc .vmem S256x128 .bf16} {harg8 : arg8.IsWhole} {arg9 : Memref sig .tc .vmem S256x4096 .fp8e4m3} {harg9 : arg9.IsWhole} {arg10 : Memref sig .tc .vmem S1x256 .f32} {harg10 : arg10.IsWhole} {arg11 : Memref sig .tc .vmem S256x4096 .bf16} {harg11 : arg11.IsWhole} {arg12 : Memref sig .tc .vmem S1x4096 .f32} {harg12 : arg12.IsWhole} {arg13 : Memref sig .tc .vmem S9x4096x256 .fp8e4m3} {harg13 : arg13.IsWhole} {arg14 : Memref sig .tc .vmem S1x2304 .f32} {harg14 : arg14.IsWhole} {arg15 : Memref sig .tc .vmem S1x256 .i32} {harg15 : arg15.IsWhole} {arg16 : Memref sig .tc .vmem S1x128 .f32} {harg16 : arg16.IsWhole} {arg17 : Memref sig .tc .vmem S256x128 .f32} {harg17 : arg17.IsWhole} {arg18 : Memref sig .tc .vmem S256x128 .f32} {harg18 : arg18.IsWhole} {arg19 : Memref sig .tc .vmem S256x128 .f32} {harg19 : arg19.IsWhole}
    {fh0 : HbBuf0 (F := F) c hbM0_0} {fh1 : HbBuf0 (F := F) c hbM0_1} {fh2 : HbBuf0 (F := F) c hbM0_2} {fh3 : HbBuf0 (F := F) c hbM0_3} {fh4 : HbBuf0 (F := F) c hbM0_4} {fh5 : HbBuf0 (F := F) c hbM0_5}
    {g : arg13.view.ty.Contents (Elt F)} {f : arg7.view.ty.Contents (Elt F)} :
    (owns (c : Thread nD τ) arg7 fullShare (arg7.view.read (Elt F) (arg7.view.writes (Elt F) f ((bodyRun c arg6 harg6 arg7 harg7 arg8 harg8 arg9 harg9 arg10 harg10 arg11 harg11 arg12 harg12 arg13 harg13 arg14 harg14 arg15 harg15 arg16 harg16 arg17 harg17 arg18 harg18 arg19 harg19 fh0 fh1 fh2 fh3 fh4 fh5).1.2.1 g))) : sProp 𝕄)
      ⊢ owns (c : Thread nD τ) arg7 fullShare (Spec.kV fh0 fh1 fh2 fh3 fh4 fh5) :=
  owns_of_eq (by rw [out7_eq]; exact read_whole_piece _ _ _ _ _ zero2)

/-- What the run leaves in the buffer of the value head. -/
theorem owns_out2 {c : Dev nD} {arg6 : Memref sig .tc .vmem S256x16x128 .bf16} {harg6 : arg6.IsWhole} {arg7 : Memref sig .tc .vmem S256x128 .bf16} {harg7 : arg7.IsWhole} {arg8 : Memref sig .tc .vmem S256x128 .bf16} {harg8 : arg8.IsWhole} {arg9 : Memref sig .tc .vmem S256x4096 .fp8e4m3} {harg9 : arg9.IsWhole} {arg10 : Memref sig .tc .vmem S1x256 .f32} {harg10 : arg10.IsWhole} {arg11 : Memref sig .tc .vmem S256x4096 .bf16} {harg11 : arg11.IsWhole} {arg12 : Memref sig .tc .vmem S1x4096 .f32} {harg12 : arg12.IsWhole} {arg13 : Memref sig .tc .vmem S9x4096x256 .fp8e4m3} {harg13 : arg13.IsWhole} {arg14 : Memref sig .tc .vmem S1x2304 .f32} {harg14 : arg14.IsWhole} {arg15 : Memref sig .tc .vmem S1x256 .i32} {harg15 : arg15.IsWhole} {arg16 : Memref sig .tc .vmem S1x128 .f32} {harg16 : arg16.IsWhole} {arg17 : Memref sig .tc .vmem S256x128 .f32} {harg17 : arg17.IsWhole} {arg18 : Memref sig .tc .vmem S256x128 .f32} {harg18 : arg18.IsWhole} {arg19 : Memref sig .tc .vmem S256x128 .f32} {harg19 : arg19.IsWhole}
    {fh0 : HbBuf0 (F := F) c hbM0_0} {fh1 : HbBuf0 (F := F) c hbM0_1} {fh2 : HbBuf0 (F := F) c hbM0_2} {fh3 : HbBuf0 (F := F) c hbM0_3} {fh4 : HbBuf0 (F := F) c hbM0_4} {fh5 : HbBuf0 (F := F) c hbM0_5}
    {g : arg13.view.ty.Contents (Elt F)} {f : arg8.view.ty.Contents (Elt F)} :
    (owns (c : Thread nD τ) arg8 fullShare (arg8.view.read (Elt F) (arg8.view.writes (Elt F) f ((bodyRun c arg6 harg6 arg7 harg7 arg8 harg8 arg9 harg9 arg10 harg10 arg11 harg11 arg12 harg12 arg13 harg13 arg14 harg14 arg15 harg15 arg16 harg16 arg17 harg17 arg18 harg18 arg19 harg19 fh0 fh1 fh2 fh3 fh4 fh5).1.2.2.1 g))) : sProp 𝕄)
      ⊢ owns (c : Thread nD τ) arg8 fullShare (Spec.vV fh0 fh1 fh2 fh3) :=
  owns_of_eq (by rw [out8_eq]; exact read_whole_piece _ _ _ _ _ zero2)

/-- What the run leaves in the buffer of the codes. -/
theorem owns_out3 {c : Dev nD} {arg6 : Memref sig .tc .vmem S256x16x128 .bf16} {harg6 : arg6.IsWhole} {arg7 : Memref sig .tc .vmem S256x128 .bf16} {harg7 : arg7.IsWhole} {arg8 : Memref sig .tc .vmem S256x128 .bf16} {harg8 : arg8.IsWhole} {arg9 : Memref sig .tc .vmem S256x4096 .fp8e4m3} {harg9 : arg9.IsWhole} {arg10 : Memref sig .tc .vmem S1x256 .f32} {harg10 : arg10.IsWhole} {arg11 : Memref sig .tc .vmem S256x4096 .bf16} {harg11 : arg11.IsWhole} {arg12 : Memref sig .tc .vmem S1x4096 .f32} {harg12 : arg12.IsWhole} {arg13 : Memref sig .tc .vmem S9x4096x256 .fp8e4m3} {harg13 : arg13.IsWhole} {arg14 : Memref sig .tc .vmem S1x2304 .f32} {harg14 : arg14.IsWhole} {arg15 : Memref sig .tc .vmem S1x256 .i32} {harg15 : arg15.IsWhole} {arg16 : Memref sig .tc .vmem S1x128 .f32} {harg16 : arg16.IsWhole} {arg17 : Memref sig .tc .vmem S256x128 .f32} {harg17 : arg17.IsWhole} {arg18 : Memref sig .tc .vmem S256x128 .f32} {harg18 : arg18.IsWhole} {arg19 : Memref sig .tc .vmem S256x128 .f32} {harg19 : arg19.IsWhole}
    {fh0 : HbBuf0 (F := F) c hbM0_0} {fh1 : HbBuf0 (F := F) c hbM0_1} {fh2 : HbBuf0 (F := F) c hbM0_2} {fh3 : HbBuf0 (F := F) c hbM0_3} {fh4 : HbBuf0 (F := F) c hbM0_4} {fh5 : HbBuf0 (F := F) c hbM0_5}
    {g : arg13.view.ty.Contents (Elt F)} {f : arg9.view.ty.Contents (Elt F)} :
    (owns (c : Thread nD τ) arg9 fullShare (arg9.view.read (Elt F) (arg9.view.writes (Elt F) f ((bodyRun c arg6 harg6 arg7 harg7 arg8 harg8 arg9 harg9 arg10 harg10 arg11 harg11 arg12 harg12 arg13 harg13 arg14 harg14 arg15 harg15 arg16 harg16 arg17 harg17 arg18 harg18 arg19 harg19 fh0 fh1 fh2 fh3 fh4 fh5).1.2.2.2.1 g))) : sProp 𝕄)
      ⊢ owns (c : Thread nD τ) arg9 fullShare (Spec.codes fh0 fh1) :=
  owns_of_eq (by rw [out9_eq]; exact View.read_writes_eq_canon _ _ _ (cover_codes _ _))

/-- What the run leaves in the buffer of the row scales. -/
theorem owns_out4 {c : Dev nD} {arg6 : Memref sig .tc .vmem S256x16x128 .bf16} {harg6 : arg6.IsWhole} {arg7 : Memref sig .tc .vmem S256x128 .bf16} {harg7 : arg7.IsWhole} {arg8 : Memref sig .tc .vmem S256x128 .bf16} {harg8 : arg8.IsWhole} {arg9 : Memref sig .tc .vmem S256x4096 .fp8e4m3} {harg9 : arg9.IsWhole} {arg10 : Memref sig .tc .vmem S1x256 .f32} {harg10 : arg10.IsWhole} {arg11 : Memref sig .tc .vmem S256x4096 .bf16} {harg11 : arg11.IsWhole} {arg12 : Memref sig .tc .vmem S1x4096 .f32} {harg12 : arg12.IsWhole} {arg13 : Memref sig .tc .vmem S9x4096x256 .fp8e4m3} {harg13 : arg13.IsWhole} {arg14 : Memref sig .tc .vmem S1x2304 .f32} {harg14 : arg14.IsWhole} {arg15 : Memref sig .tc .vmem S1x256 .i32} {harg15 : arg15.IsWhole} {arg16 : Memref sig .tc .vmem S1x128 .f32} {harg16 : arg16.IsWhole} {arg17 : Memref sig .tc .vmem S256x128 .f32} {harg17 : arg17.IsWhole} {arg18 : Memref sig .tc .vmem S256x128 .f32} {harg18 : arg18.IsWhole} {arg19 : Memref sig .tc .vmem S256x128 .f32} {harg19 : arg19.IsWhole}
    {fh0 : HbBuf0 (F := F) c hbM0_0} {fh1 : HbBuf0 (F := F) c hbM0_1} {fh2 : HbBuf0 (F := F) c hbM0_2} {fh3 : HbBuf0 (F := F) c hbM0_3} {fh4 : HbBuf0 (F := F) c hbM0_4} {fh5 : HbBuf0 (F := F) c hbM0_5}
    {g : arg13.view.ty.Contents (Elt F)} {f : arg10.view.ty.Contents (Elt F)} :
    (owns (c : Thread nD τ) arg10 fullShare (arg10.view.read (Elt F) (arg10.view.writes (Elt F) f ((bodyRun c arg6 harg6 arg7 harg7 arg8 harg8 arg9 harg9 arg10 harg10 arg11 harg11 arg12 harg12 arg13 harg13 arg14 harg14 arg15 harg15 arg16 harg16 arg17 harg17 arg18 harg18 arg19 harg19 fh0 fh1 fh2 fh3 fh4 fh5).1.2.2.2.2 g))) : sProp 𝕄)
      ⊢ owns (c : Thread nD τ) arg10 fullShare (Spec.scaleV fh0 fh1) :=
  owns_of_eq (by rw [out10_eq]; exact read_whole_piece _ _ _ _ _ zero2)

/-- The proof data of the one pipeline on core `c`: the arrays as the region finds them (`V`); after the body at
    point `t` each input's buffer at its block and the outputs, FORGOTTEN, at `Dat.unnamed`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => Spec.qV (opX m c) (opG m c) (opW m c) (opS m c) (opP m c) (opQ m c)
    | ⟨1, _⟩ => Spec.kV (opX m c) (opG m c) (opW m c) (opS m c) (opP m c) (opQ m c)
    | ⟨2, _⟩ => Spec.vV (opX m c) (opG m c) (opW m c) (opS m c)
    | ⟨3, _⟩ => Spec.codes (opX m c) (opG m c)
    | ⟨4, _⟩ => Spec.scaleV (opX m c) (opG m c)
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The proof data's after-value of result 0. -/
theorem after0_0 (c : Dev nD) (t : Fin cfg0.N) : (dats m 0 c).after 0 t = Spec.qV (opX m c) (opG m c) (opW m c) (opS m c) (opP m c) (opQ m c) := by dsimp only [dats]
/-- The proof data's after-value of result 1. -/
theorem after0_1 (c : Dev nD) (t : Fin cfg0.N) : (dats m 0 c).after 1 t = Spec.kV (opX m c) (opG m c) (opW m c) (opS m c) (opP m c) (opQ m c) := by dsimp only [dats]
/-- The proof data's after-value of result 2. -/
theorem after0_2 (c : Dev nD) (t : Fin cfg0.N) : (dats m 0 c).after 2 t = Spec.vV (opX m c) (opG m c) (opW m c) (opS m c) := by dsimp only [dats]
/-- The proof data's after-value of result 3. -/
theorem after0_3 (c : Dev nD) (t : Fin cfg0.N) : (dats m 0 c).after 3 t = Spec.codes (opX m c) (opG m c) := by dsimp only [dats]
/-- The proof data's after-value of result 4. -/
theorem after0_4 (c : Dev nD) (t : Fin cfg0.N) : (dats m 0 c).after 4 t = Spec.scaleV (opX m c) (opG m c) := by dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1200000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [after0_0, after0_1, after0_2, after0_3, after0_4]
  rw [show (dats m 0 c).Φ t.succ = (dats m 0 c).Φ t.castSucc from rfl]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨⟨HS0, HS1, HS2, HS3, HS4, HS5, HS6, HS7, HS8⟩, Hg, ⟨Hq0, Hq1, Hq2, Hq3, Hq4, Hq5, Hq6, Hq7, Hq8, Hq9, Hq10, Hq11, Hq12, Hq13, Hq14⟩, ⟨Hh0, Hh1, Hh2, Hh3, Hh4, Hh5⟩⟩, ⟨%W, -, HW⟩, ⟨%d0, H0⟩, ⟨%d1, H1⟩, ⟨%d2, H2⟩, ⟨%d3, H3⟩, ⟨%d4, H4⟩⟩
  iapply ((bodyRun c _ _ _ _ _ _ _ _ _ _ _ _ _ _ _ _ _ _ _ _ _ _ _ _ _ _ _ _  (V m c main_v0) (V m c main_v1) (V m c main_arg2) (V m c main_v2) (V m c main_v3) (V m c main_cst)).2 W _)
  isplitl [H0]; · iexists _; iexact H0
  isplitl [H1]; · iexists _; iexact H1
  isplitl [H2]; · iexists _; iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [HW]; · iexact HW
  iintro ⟨⟨%g0, %f0, H0⟩, ⟨%g1, %f1, H1⟩, ⟨%g2, %f2, H2⟩, ⟨%g3, %f3, H3⟩, ⟨%g4, %f4, H4⟩, HS0, HS1, HS2, HS3, HS4, HS5, HS6, HS7, HS8, Hq0, Hq1, Hq2, Hq3, Hq4, Hq5, Hq6, Hq7, Hq8, Hq9, Hq10, Hq11, Hq12, Hq13, Hq14, Hh0, Hh1, Hh2, Hh3, Hh4, Hh5, ⟨%W', HW'⟩⟩
  isplitl [HS0 HS1 HS2 HS3 HS4 HS5 HS6 HS7 HS8 Hg Hq0 Hq1 Hq2 Hq3 Hq4 Hq5 Hq6 Hq7 Hq8 Hq9 Hq10 Hq11 Hq12 Hq13 Hq14 Hh0 Hh1 Hh2 Hh3 Hh4 Hh5]
  · isplitl [HS0 HS1 HS2 HS3 HS4 HS5 HS6 HS7 HS8]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iexact HS8
    isplitl [Hg]
    · iexact Hg
    isplitl [Hq0 Hq1 Hq2 Hq3 Hq4 Hq5 Hq6 Hq7 Hq8 Hq9 Hq10 Hq11 Hq12 Hq13 Hq14]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      iexact Hq14
    isplitl [Hh0]; · iexact Hh0
    isplitl [Hh1]; · iexact Hh1
    isplitl [Hh2]; · iexact Hh2
    isplitl [Hh3]; · iexact Hh3
    isplitl [Hh4]; · iexact Hh4
    iexact Hh5
  isplitl [HW']
  · iexists W'; isplitr; · ipureintro; exact fun _ _ => Or.inl trivial
    iexact HW'
  isplitl [H0]; · iapply owns_out0; iexact H0
  isplitl [H1]; · iapply owns_out1; iexact H1
  isplitl [H2]; · iapply owns_out2; iexact H2
  isplitl [H3]; · iapply owns_out3; iexact H3
  iapply owns_out4; iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run, its results and the frame -/

-- `θ_run_frame_dma`'s implicit arguments are found by unifying its conclusion with this one, which takes unfolding plain
-- definitions in a metavariable's type
set_option backward.isDefEq.respectTransparency.types false in
/-- The launch: every final state has every array of the pipeline at what the library computes from the proof data, every
    other unscoped buffer as the region found it, and every semaphore counter of the machine at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m) (hin := fun _ => .rfl) (hout := fun _ => .rfl)

/-- The final array of the query heads. -/
theorem final0 (c : Dev nD) : (dats m 0 c).arrAt 0 cfg0.N = Spec.qV (opX m c) (opG m c) (opW m c) (opS m c) (opP m c) (opQ m c) := by
  refine (dats m 0 c).arrAt_eq_of_after_last 0 (⟨0, by decide⟩ : Fin cfg0.N) (by decide +kernel) _ fun j => ?_
  blk_simp
  exact congrFun (after0_0 m c _) j

/-- The final array of the key head. -/
theorem final1 (c : Dev nD) : (dats m 0 c).arrAt 1 cfg0.N = Spec.kV (opX m c) (opG m c) (opW m c) (opS m c) (opP m c) (opQ m c) := by
  refine (dats m 0 c).arrAt_eq_of_after_last 1 (⟨0, by decide⟩ : Fin cfg0.N) (by decide +kernel) _ fun j => ?_
  blk_simp
  exact congrFun (after0_1 m c _) j

/-- The final array of the value head. -/
theorem final2 (c : Dev nD) : (dats m 0 c).arrAt 2 cfg0.N = Spec.vV (opX m c) (opG m c) (opW m c) (opS m c) := by
  refine (dats m 0 c).arrAt_eq_of_after_last 2 (⟨0, by decide⟩ : Fin cfg0.N) (by decide +kernel) _ fun j => ?_
  blk_simp
  exact congrFun (after0_2 m c _) j

/-- The final array of the codes. -/
theorem final3 (c : Dev nD) : (dats m 0 c).arrAt 3 cfg0.N = Spec.codes (opX m c) (opG m c) := by
  refine (dats m 0 c).arrAt_eq_of_after_last 3 (⟨0, by decide⟩ : Fin cfg0.N) (by decide +kernel) _ fun j => ?_
  blk_simp
  exact congrFun (after0_3 m c _) j

/-- The final array of the row scales. -/
theorem final4 (c : Dev nD) : (dats m 0 c).arrAt 4 cfg0.N = Spec.scaleV (opX m c) (opG m c) := by
  refine (dats m 0 c).arrAt_eq_of_after_last 4 (⟨0, by decide⟩ : Fin cfg0.N) (by decide +kernel) _ fun j => ?_
  blk_simp
  exact congrFun (after0_4 m c _) j

/-- The run with its results: each result array ends at the function of the operands that Spec.lean names, and the
    argument arrays end unchanged. -/
theorem run_values : θ_run defs (onTc (τ := τ) (main (F := F))) ⟨m, fun _ => 0, ρ⟩ (fun r => ∀ c : Dev nD,
      r.2.mem ((c.tc : Thread nD τ).loc main_v4_0) = Spec.qV (opX m c) (opG m c) (opW m c) (opS m c) (opP m c) (opQ m c)
      ∧ r.2.mem ((c.tc : Thread nD τ).loc main_v4_1) = Spec.kV (opX m c) (opG m c) (opW m c) (opS m c) (opP m c) (opQ m c)
      ∧ r.2.mem ((c.tc : Thread nD τ).loc main_v4_2) = Spec.vV (opX m c) (opG m c) (opW m c) (opS m c)
      ∧ r.2.mem ((c.tc : Thread nD τ).loc main_v4_3) = Spec.codes (opX m c) (opG m c)
      ∧ r.2.mem ((c.tc : Thread nD τ).loc main_v4_4) = Spec.scaleV (opX m c) (opG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 0).trans (final0 m c),
      ((h.1 c).1 1).trans (final1 m c),
      ((h.1 c).1 2).trans (final2 m c),
      ((h.1 c).1 3).trans (final3 m c),
      ((h.1 c).1 4).trans (final4 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩) (run_main_quiescent m ρ)

/-- The argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main_quiescent m ρ)

end Cert.KernelIdeal.Run

end
-- ==== Proof.Host.lean ====
/- The two programs' operand arrays as functions of the arguments, and what the precondition says of the gain. -/
module

public import proofs.«01_k».proof.Proof.RefRun
public import proofs.«01_k».proof.Proof.Launch
public import proofs.«01_k».proof.Defs
public import proofs.«01_k».proof.Proof.Gen.Pre_gain_in_range
public import Idealize.ShloMosaic.Lib.Claim
public import Idealize.ShloMosaic.Lib.Pointwise

@[expose] public section

set_option maxRecDepth 8192

noncomputable section

namespace Cert.Proof

open Idealize.ShloMosaic Idealize.ShloMosaic.TcCoe

/-- The memories of the two programs. -/
abbrev MemK := (ℓ : Loc Cert.KernelIdeal.nD Cert.KernelIdeal.τ Cert.KernelIdeal.sig) → Buf (Elt Ideal) ℓ
/-- The memories of the reference. -/
abbrev MemR := (ℓ : Loc Cert.ReferenceIdeal.nD Cert.ReferenceIdeal.τ Cert.ReferenceIdeal.sig) → Buf (Elt Ideal) ℓ

/-- The kernel's activations. -/
theorem opX_K (m : MemK) (c : Dev Cert.KernelIdeal.nD) : Cert.KernelIdeal.Run.opX m c
    = shapeCast Cert.KernelIdeal.S256x4096 (m ((c.tc : Thread _ Cert.KernelIdeal.τ).loc Cert.KernelIdeal.main_arg0)) Cert.KernelIdeal.Gen.shapeCasts_S256x1x4096_S256x4096 := by
  show Cert.KernelIdeal.Gen.V m c Cert.KernelIdeal.main_v0 = _
  entry_read
  rfl
/-- The kernel's gain. -/
theorem opG_K (m : MemK) (c : Dev Cert.KernelIdeal.nD) : Cert.KernelIdeal.Run.opG m c
    = shapeCast Cert.KernelIdeal.S1x4096 (m ((c.tc : Thread _ Cert.KernelIdeal.τ).loc Cert.KernelIdeal.main_arg1)) Cert.KernelIdeal.Gen.shapeCasts_S4096_S1x4096 := by
  show Cert.KernelIdeal.Gen.V m c Cert.KernelIdeal.main_v1 = _
  entry_read
  rfl
/-- The kernel's weight scales. -/
theorem opS_K (m : MemK) (c : Dev Cert.KernelIdeal.nD) : Cert.KernelIdeal.Run.opS m c
    = shapeCast Cert.KernelIdeal.S1x2304 (m ((c.tc : Thread _ Cert.KernelIdeal.τ).loc Cert.KernelIdeal.main_arg3)) Cert.KernelIdeal.Gen.shapeCasts_S2304_S1x2304 := by
  show Cert.KernelIdeal.Gen.V m c Cert.KernelIdeal.main_v2 = _
  entry_read
  rfl
/-- The kernel's positions. -/
theorem opP_K (m : MemK) (c : Dev Cert.KernelIdeal.nD) : Cert.KernelIdeal.Run.opP m c
    = shapeCast Cert.KernelIdeal.S1x256 (m ((c.tc : Thread _ Cert.KernelIdeal.τ).loc Cert.KernelIdeal.main_arg4)) Cert.KernelIdeal.Gen.shapeCasts_S256x1_S1x256 := by
  show Cert.KernelIdeal.Gen.V m c Cert.KernelIdeal.main_v3 = _
  entry_read
  rfl
/-- The kernel's frequencies. -/
theorem opQ_K (m : MemK) (c : Dev Cert.KernelIdeal.nD) : Cert.KernelIdeal.Run.opQ m c
    = fun i => Ideal.ofBits .f32 (Cert.KernelIdeal.lit0 (Cert.KernelIdeal.S1x128.rowMajor i)) := by
  show Cert.KernelIdeal.Gen.V m c Cert.KernelIdeal.main_cst = _
  entry_read
  rfl
/-- The reference's activations. -/
theorem opX_R (m : MemR) (c : Dev Cert.ReferenceIdeal.nD) : Cert.ReferenceIdeal.Run.opX m c
    = shapeCast Cert.ReferenceIdeal.S256x4096 (m ((c.tc : Thread _ Cert.ReferenceIdeal.τ).loc Cert.ReferenceIdeal.main_arg0)) Cert.ReferenceIdeal.Gen.shapeCasts_S256x1x4096_S256x4096 := by
  show Cert.ReferenceIdeal.Gen.V m c Cert.ReferenceIdeal.main_v0 = _
  entry_read
  rfl
/-- The reference's gain. -/
theorem opG_R (m : MemR) (c : Dev Cert.ReferenceIdeal.nD) : Cert.ReferenceIdeal.Run.opG m c
    = shapeCast Cert.ReferenceIdeal.S1x4096 (m ((c.tc : Thread _ Cert.ReferenceIdeal.τ).loc Cert.ReferenceIdeal.main_arg1)) Cert.ReferenceIdeal.Gen.shapeCasts_S4096_S1x4096 := by
  show Cert.ReferenceIdeal.Gen.V m c Cert.ReferenceIdeal.main_v1 = _
  entry_read
  rfl
/-- The reference's weight scales. -/
theorem opS_R (m : MemR) (c : Dev Cert.ReferenceIdeal.nD) : Cert.ReferenceIdeal.Run.opS m c
    = shapeCast Cert.ReferenceIdeal.S1x2304 (m ((c.tc : Thread _ Cert.ReferenceIdeal.τ).loc Cert.ReferenceIdeal.main_arg3)) Cert.ReferenceIdeal.Gen.shapeCasts_S2304_S1x2304 := by
  show Cert.ReferenceIdeal.Gen.V m c Cert.ReferenceIdeal.main_v2 = _
  entry_read
  rfl
/-- The reference's frequencies. -/
theorem opQ_R (m : MemR) (c : Dev Cert.ReferenceIdeal.nD) : Cert.ReferenceIdeal.Run.opQ m c
    = fun i => Ideal.ofBits .f32 (Cert.ReferenceIdeal.lit0 (Cert.ReferenceIdeal.S1x64.rowMajor i)) := by
  show Cert.ReferenceIdeal.Gen.V m c Cert.ReferenceIdeal.main_cst = _
  entry_read
  rfl

section
variable (m : MemK) (m' : MemR) (c : Dev Cert.KernelIdeal.nD)

/-- The activations of the two programs are equal. -/
theorem opX_eq (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Run.opX m' c = Cert.KernelIdeal.Run.opX m c := by
  rw [opX_K, opX_R]
  exact congrArg (fun z => shapeCast Cert.KernelIdeal.S256x4096 z Cert.KernelIdeal.Gen.shapeCasts_S256x1x4096_S256x4096) h

/-- The gains are equal. -/
theorem opG_eq (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Run.opG m' c = Cert.KernelIdeal.Run.opG m c := by
  rw [opG_K, opG_R]
  exact congrArg (fun z => shapeCast Cert.KernelIdeal.S1x4096 z Cert.KernelIdeal.Gen.shapeCasts_S4096_S1x4096) h

/-- The weights are equal. -/
theorem opW_eq (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Run.opW m' c = Cert.KernelIdeal.Run.opW m c :=
  (Cert.ReferenceIdeal.Gen.V_main_arg2 m' c).trans (h.trans (Cert.KernelIdeal.Gen.V_main_arg2 m c).symm)

/-- The weight scales are equal. -/
theorem opS_eq (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Run.opS m' c = Cert.KernelIdeal.Run.opS m c := by
  rw [opS_K, opS_R]
  exact congrArg (fun z => shapeCast Cert.KernelIdeal.S1x2304 z Cert.KernelIdeal.Gen.shapeCasts_S2304_S1x2304) h

/-- A column read as a row. -/
theorem column_row (P : Vec Ideal Cert.KernelIdeal.S256x1 .i32) (r : Fin 256) :
    shapeCast Cert.KernelIdeal.S1x256 P Cert.KernelIdeal.Gen.shapeCasts_S256x1_S1x256 (ix2 0 r) = P (ix2 r 0) := by
  pointwise

/-- The kernel's row of positions is the reference's column. -/
theorem opP_eq (h : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (r : Fin 256) : Cert.ReferenceIdeal.Run.opP m' c (ix2 r 0) = Cert.KernelIdeal.Run.opP m c (ix2 0 r) := by
  rw [opP_K, column_row]
  exact congrFun ((Cert.ReferenceIdeal.Gen.V_main_arg4 m' c).trans h) (ix2 r 0)

/-- The kernel's table of frequencies is the reference's, twice. -/
theorem table_eq : ∀ l : Fin 128, Cert.KernelIdeal.lit0 l = Cert.ReferenceIdeal.lit0 ⟨l.val % 64, Nat.mod_lt _ (by norm_num)⟩ := by
  decide +kernel

/-- Entry `l` of the kernel's frequencies is entry `l` mod 64 of the reference's. -/
theorem opQ_eq (l : Fin 128) : Cert.KernelIdeal.Run.opQ m c (ix2 0 l)
    = Cert.ReferenceIdeal.Run.opQ m' c (ix2 0 ⟨l.val % 64, Nat.mod_lt _ (by norm_num)⟩) := by
  rw [opQ_K, opQ_R]
  have e1 : Cert.KernelIdeal.S1x128.rowMajor (ix2 0 l) = l := Fin.ext (by rw [Shape.rowMajor_val_two]; show 0 * 128 + l.val = l.val; omega)
  have e2 : Cert.ReferenceIdeal.S1x64.rowMajor (ix2 0 ⟨l.val % 64, Nat.mod_lt _ (by norm_num)⟩) = ⟨l.val % 64, Nat.mod_lt _ (by norm_num)⟩ :=
    Fin.ext (by rw [Shape.rowMajor_val_two]; show 0 * 64 + l.val % 64 = l.val % 64; omega)
  exact congrArg (Ideal.ofBits .f32) ((congrArg Cert.KernelIdeal.lit0 e1).trans ((table_eq l).trans (congrArg Cert.ReferenceIdeal.lit0 e2).symm))

/-- A vector read as a row. -/
theorem vector_row (G : Vec Ideal Cert.KernelIdeal.S4096 .f32) (k : Fin 4096) :
    shapeCast Cert.KernelIdeal.S1x4096 G Cert.KernelIdeal.Gen.shapeCasts_S4096_S1x4096 (ix2 0 k) = G (ix1 k) := by
  pointwise

/-- The precondition: no gain exceeds the largest finite value in magnitude. -/
theorem gain_of_pre (h : Cert.Pre_KernelIdeal_gain_in_range (hPre_gain_in_range := Cert.Pre_gain_in_range.Gen.facts) m) (k : Fin 4096) :
    max (Cert.KernelIdeal.Run.opG m c (ix2 0 k)) (-(Cert.KernelIdeal.Run.opG m c (ix2 0 k))) ≤ Ideal.ofBits .f32 0x7F7FFFFF#32 := by
  rw [opG_K, vector_row]
  have h := congrFun (h c) (ix1 k)
  unfold Cert.Pre_gain_in_range.fn at h
  pointwise at h
  rw [Ideal.absf_def] at h
  by_contra hn
  rw [decide_eq_false hn] at h
  exact absurd h (by decide)
end

end Cert.Proof

end
-- ==== Proof.Exponent.lean ====
/- Powers of two at the extended reals: the exponent a binary search over bit patterns finds is the floor of the base-two logarithm. -/
module

public import Idealize.ShloMosaic.PureOps.Ideal
public import Idealize.ShloMosaic.PureOps.Ideal.Laws
public import Idealize.ShloMosaic.Lib.IdealHost

@[expose] public section

noncomputable section

namespace Cert.Num

open Idealize.ShloMosaic

/-- The value of the pattern with exponent field `n` and significand zero: zero, or a power of two. -/
def pw (n : ℕ) : ℝ := if n = 0 then 0 else (2 : ℝ) ^ ((n : ℤ) - 127)

/-- The powers `pw n` are positive for `n` not 0. -/
theorem pw_pos {n : ℕ} (h : n ≠ 0) : 0 < pw n := by
  rw [pw, if_neg h]; positivity

/-- `pw` is monotone. -/
theorem pw_mono {a b : ℕ} (h : a ≤ b) : pw a ≤ pw b := by
  by_cases ha : a = 0
  · by_cases hb : b = 0
    · rw [ha, hb]
    · have := pw_pos hb
      rw [pw, if_pos ha]; exact this.le
  · rw [pw, pw, if_neg ha, if_neg (by omega)]
    exact zpow_le_zpow_right₀ (by norm_num) (by omega)

/-- The word holding `n` in the exponent field. -/
def word (n : ℕ) : BitVec 32 := IntOp.shli ArithUnit.vector (BitVec.ofNat 32 n) 23#32

/-- The word of exponent `n` is `n` shifted left by 23. -/
theorem word_eq (n : ℕ) : word n = BitVec.ofNat 32 n <<< 23 := rfl

/-- The sign bit of the word of exponent `n` is clear. -/
theorem word_sign {n : ℕ} (h : n ≤ 255) : (word n).extractLsb' 31 1 = 0#1 := by
  rw [word_eq]
  apply BitVec.eq_of_toNat_eq
  simp [BitVec.extractLsb'_toNat, Nat.shiftLeft_eq, Nat.shiftRight_eq_div_pow]
  omega

/-- The exponent field of the word of exponent `n` is `n`. -/
theorem word_exp {n : ℕ} (h : n ≤ 255) : ((word n).extractLsb' 23 8).toNat = n := by
  rw [word_eq]
  simp [BitVec.extractLsb'_toNat, Nat.shiftLeft_eq, Nat.shiftRight_eq_div_pow]
  omega

/-- The fraction field of the word of exponent `n` is 0. -/
theorem word_frac (n : ℕ) : ((word n).extractLsb' 0 23).toNat = 0 := by
  rw [word_eq]
  simp [BitVec.extractLsb'_toNat, Nat.shiftLeft_eq]

/-- A pattern with a zero significand and an exponent field below 255 denotes `pw`. -/
theorem ofBits_word {n : ℕ} (h : n ≤ 254) : Ideal.ofBits .f32 (word n) = (pw n : EReal) := by
  show Ideal.ieee 8 23 (word n) = _
  unfold Ideal.ieee
  simp only [word_sign (show n ≤ 255 by omega), word_exp (show n ≤ 255 by omega), word_frac]
  rw [if_neg (by norm_num; omega)]
  by_cases h0 : n = 0
  · rw [if_pos h0, pw, if_pos h0]; norm_num
  · rw [if_neg h0, pw, if_neg h0]
    congr 1
    norm_num
    rw [show (8388608 : ℝ) = (2 : ℝ) ^ (23 : ℤ) by norm_num, ← zpow_add₀ (by norm_num)]
    congr 1; ring

/-- With the exponent field all ones it denotes infinity. -/
theorem ofBits_word_top : Ideal.ofBits .f32 (word 255) = ⊤ := by
  show Ideal.ieee 8 23 (word 255) = _
  unfold Ideal.ieee
  simp only [word_sign (show 255 ≤ 255 by omega), word_exp (show 255 ≤ 255 by omega), word_frac]
  norm_num

/-! ## The search -/

/-- One step of the search: take the bit `b` when the pattern is still at most `t`. -/
def step (t : EReal) (e b : BitVec 32) : BitVec 32 :=
  if Ideal.ofBits .f32 (IntOp.shli ArithUnit.vector (IntOp.addi e b) 23#32) ≤ t then IntOp.addi e b else e

/-- The search over the eight bits of the exponent field, the highest first. -/
def expo (t : EReal) : BitVec 32 :=
  step t (step t (step t (step t (step t (step t (step t (step t 0#32 128#32) 64#32) 32#32) 16#32) 8#32) 4#32) 2#32) 1#32

/-- `e` holds a number `m` whose power of two is at most `t`, and `t` is below the power of two of `m + w`. -/
def Found (t : EReal) (e : BitVec 32) (w : ℕ) : Prop :=
  ∃ m : ℕ, e = BitVec.ofNat 32 m ∧ m + w ≤ 256 ∧ (pw m : EReal) ≤ t ∧ t < (pw (m + w) : EReal)

/-- The comparison of `t` with the float of the word of exponent `n` is the comparison of `t` with `pw n`. -/
theorem test_iff {t : EReal} (ht : t ≠ ⊤) {n : ℕ} (h : n ≤ 255) (hlt : t < (pw 255 : EReal)) :
    Ideal.ofBits .f32 (word n) ≤ t ↔ (pw n : EReal) ≤ t := by
  by_cases hn : n ≤ 254
  · rw [ofBits_word hn]
  · have : n = 255 := by omega
    subst this
    rw [ofBits_word_top]
    exact ⟨fun h => absurd (top_le_iff.mp h) ht, fun h => absurd hlt (not_lt.mpr h)⟩

/-- One step halves the width. -/
theorem step_found {t : EReal} (ht : t ≠ ⊤) (hlt : t < (pw 255 : EReal)) {e : BitVec 32} {w : ℕ} (hw : 1 ≤ w)
    (h : Found t e (2 * w)) : Found t (step t e (BitVec.ofNat 32 w)) w := by
  obtain ⟨m, rfl, hm, hl, hu⟩ := h
  have hadd : IntOp.addi (BitVec.ofNat 32 m) (BitVec.ofNat 32 w) = BitVec.ofNat 32 (m + w) := (BitVec.ofNat_add m w).symm
  unfold step
  rw [hadd]
  change Found t (if Ideal.ofBits .f32 (word (m + w)) ≤ t then _ else _) w
  by_cases hc : (pw (m + w) : EReal) ≤ t
  · rw [if_pos ((test_iff ht (by omega) hlt).mpr hc)]
    refine ⟨m + w, rfl, by omega, hc, ?_⟩
    rw [show m + w + w = m + 2 * w by ring]; exact hu
  · rw [if_neg (fun h' => hc ((test_iff ht (by omega) hlt).mp h'))]
    exact ⟨m, rfl, by omega, hl, not_le.mp hc⟩

/-- The search finds the exponent field: `t` lies between two neighbouring powers of two (or below the first). -/
theorem expo_spec {t : EReal} (h0 : 0 ≤ t) (h1 : t < (pw 253 : EReal)) :
    ∃ n : ℕ, n ≤ 252 ∧ expo t = BitVec.ofNat 32 n ∧ (pw n : EReal) ≤ t ∧ t < (pw (n + 1) : EReal) := by
  have ht : t ≠ ⊤ := (lt_of_lt_of_le h1 le_top).ne
  have hlt : t < (pw 255 : EReal) := lt_of_lt_of_le h1 (EReal.coe_le_coe_iff.mpr (pw_mono (by norm_num)))
  have s0 : Found t 0#32 (2 * 128) := ⟨0, rfl, by norm_num, by simpa [pw] using h0,
    lt_of_lt_of_le h1 (EReal.coe_le_coe_iff.mpr (pw_mono (by norm_num)))⟩
  have s1 := step_found ht hlt (w := 128) (by norm_num) s0
  have s2 := step_found ht hlt (w := 64) (by norm_num) s1
  have s3 := step_found ht hlt (w := 32) (by norm_num) s2
  have s4 := step_found ht hlt (w := 16) (by norm_num) s3
  have s5 := step_found ht hlt (w := 8) (by norm_num) s4
  have s6 := step_found ht hlt (w := 4) (by norm_num) s5
  have s7 := step_found ht hlt (w := 2) (by norm_num) s6
  obtain ⟨n, hn, _, hl, hu⟩ := step_found ht hlt (w := 1) (by norm_num) s7
  refine ⟨n, ?_, hn, hl, hu⟩
  by_contra hc
  exact absurd (lt_of_le_of_lt hl h1) (not_lt.mpr (EReal.coe_le_coe_iff.mpr (pw_mono (by omega))))

/-! ## The scale and its inverse -/

/-- The scale from the searched exponent. -/
def scaleK (t : EReal) : EReal :=
  if expo t = 0#32 then 1 else Ideal.ofBits .f32 (IntOp.shli ArithUnit.vector (IntOp.addi (expo t) 1#32) 23#32)

/-- The inverse scale from the searched exponent. -/
def invK (t : EReal) : EReal :=
  if expo t = 0#32 then 1 else Ideal.ofBits .f32 (IntOp.shli ArithUnit.vector (IntOp.subi 253#32 (expo t)) 23#32)

/-- `t` with values below the least normal number sent to zero. -/
def flush (t : EReal) : EReal := if t < Ideal.ofBits .f32 0x00800000#32 then 0 else t

/-- The exponent from the logarithm. -/
def expR (t : EReal) : EReal :=
  if flush t = 0 then 0
  else Ideal.liftRound Int.floor (Ideal.div (Ideal.log (flush t)) (Ideal.log (Ideal.ofBits .f32 0x40000000#32)))
    + Ideal.ofBits .f32 0x3F800000#32

/-- The least normal number is `pw 1`. -/
theorem ofBits_tiny : Ideal.ofBits .f32 0x00800000#32 = (pw 1 : EReal) := ofBits_word (n := 1) (by norm_num)
/-- The word 0x40000000 is two. -/
theorem ofBits_two : Ideal.ofBits .f32 0x40000000#32 = ((2 : ℝ) : EReal) := by
  rw [show (0x40000000#32 : BitVec 32) = word 128 from rfl, ofBits_word (by norm_num)]; norm_num [pw]
/-- The word 0x3F800000 is one. -/
theorem ofBits_one : Ideal.ofBits .f32 0x3F800000#32 = ((1 : ℝ) : EReal) := by
  rw [show (0x3F800000#32 : BitVec 32) = word 127 from rfl, ofBits_word (by norm_num)]; norm_num [pw]

/-- The logarithm's exponent, where the search found `n`. -/
theorem expR_spec {t : EReal} {n : ℕ} (hn : n ≠ 0) (hl : (pw n : EReal) ≤ t) (hu : t < (pw (n + 1) : EReal)) :
    expR t = (((n : ℝ) - 126 : ℝ) : EReal) := by
  have hfl : flush t = t := by
    rw [flush, ofBits_tiny, if_neg]
    exact not_lt.mpr (le_trans (EReal.coe_le_coe_iff.mpr (pw_mono (by omega))) hl)
  obtain ⟨r, rfl⟩ : ∃ r : ℝ, t = (r : EReal) := by
    induction t using EReal.rec with
    | bot => exact absurd hl (not_le.mpr (EReal.bot_lt_coe _))
    | top => exact absurd hu (not_lt.mpr le_top)
    | coe r => exact ⟨r, rfl⟩
  have hl' : pw n ≤ r := EReal.coe_le_coe_iff.mp hl
  have hu' : r < pw (n + 1) := EReal.coe_lt_coe_iff.mp hu
  have hr : 0 < r := lt_of_lt_of_le (pw_pos hn) hl'
  rw [expR, hfl, if_neg (by exact_mod_cast hr.ne'), ofBits_two, ofBits_one]
  have l1 : Ideal.log (r : EReal) = (Real.log r : EReal) := if_neg (not_le.mpr hr)
  have l2 : Ideal.log ((2 : ℝ) : EReal) = (Real.log 2 : EReal) := if_neg (by norm_num)
  have hlog2 : (0 : ℝ) < Real.log 2 := Real.log_pos (by norm_num)
  rw [l1, l2, Ideal.div_coe hlog2.ne', ← EReal.coe_mul, mul_one_div]
  have hfloor : ⌊Real.log r / Real.log 2⌋ = (n : ℤ) - 127 := by
    rw [pw, if_neg hn] at hl'
    rw [pw, if_neg (by omega)] at hu'
    rw [Int.floor_eq_iff]
    constructor
    · rw [le_div_iff₀ hlog2]
      have := Real.log_le_log (by positivity) hl'
      rwa [Real.log_zpow] at this
    · rw [div_lt_iff₀ hlog2]
      have := Real.log_lt_log hr hu'
      rw [Real.log_zpow] at this
      refine lt_of_lt_of_eq this (congrArg (· * Real.log 2) ?_)
      push_cast; ring
  show ((⌊Real.log r / Real.log 2⌋ : ℝ) : EReal) + ((1 : ℝ) : EReal) = _
  rw [hfloor, ← EReal.coe_add]
  congr 1
  push_cast; ring

/-- Below the least normal number the exponent is 0. -/
theorem expR_zero {t : EReal} (hu : t < (pw 1 : EReal)) : expR t = 0 := by
  rw [expR, if_pos]
  rw [flush, ofBits_tiny, if_pos hu]

/-- The power of two at `n - 127` is `pw n`. -/
theorem exp2_pw {n : ℕ} (hn : n ≠ 0) {x : ℝ} (hx : x = (n : ℝ) - 127) : Ideal.exp2 (x : EReal) = (pw n : EReal) := by
  show ((2 : ℝ) ^ x : ℝ) = ((pw n : ℝ) : EReal)
  rw [pw, if_neg hn, hx, ← Real.rpow_intCast]
  push_cast; rfl

/-- The power of two at 0 is 1. -/
theorem exp2_zero : Ideal.exp2 0 = 1 := by
  show ((2 : ℝ) ^ (0 : ℝ) : ℝ) = (1 : EReal)
  rw [Real.rpow_zero]; rfl

/-- The searched scale is the exponential of the logarithm's exponent, and the searched inverse that of its negative. -/
theorem scale_eq {t : EReal} (h0 : 0 ≤ t) (h1 : t < (pw 253 : EReal)) :
    scaleK t = Ideal.exp2 (expR t) ∧ invK t = Ideal.exp2 (0 - expR t) := by
  obtain ⟨n, hn, he, hl, hu⟩ := expo_spec h0 h1
  rw [scaleK, invK, he]
  by_cases hz : n = 0
  · subst hz
    rw [expR_zero hu, if_pos rfl, if_pos rfl, exp2_zero, sub_zero, exp2_zero]
    exact ⟨rfl, rfl⟩
  · have hne : BitVec.ofNat 32 n ≠ 0#32 := fun h => hz (by
      have := congrArg BitVec.toNat h
      simp at this; omega)
    rw [expR_spec hz hl hu, if_neg hne, if_neg hne]
    constructor
    · rw [show IntOp.addi (BitVec.ofNat 32 n) 1#32 = BitVec.ofNat 32 (n + 1) from (BitVec.ofNat_add n 1).symm]
      rw [exp2_pw (n := n + 1) (by omega) (by push_cast; ring)]
      exact ofBits_word (by omega)
    · rw [show IntOp.subi 253#32 (BitVec.ofNat 32 n) = BitVec.ofNat 32 (253 - n) from by
        apply BitVec.eq_of_toNat_eq
        show (BitVec.ofNat 32 253 - BitVec.ofNat 32 n).toNat = _
        simp [BitVec.toNat_sub]; omega]
      rw [show (0 : EReal) = ((0 : ℝ) : EReal) from rfl, ← EReal.coe_sub]
      rw [exp2_pw (n := 253 - n) (by omega) (by rw [Nat.cast_sub (by omega)]; push_cast; ring)]
      exact ofBits_word (by omega)

end Cert.Num

end
-- ==== Proof.Row.lean ====
/- One row of the quantization at the extended reals: the normalized row, its largest entry, and the bounds that keep the exponent in range. -/
module

public import proofs.«01_k».proof.Proof.Exponent

@[expose] public section

noncomputable section

namespace Cert.Num

open Idealize.ShloMosaic
open scoped BigOperators

/-- The factor that normalizes a row: the reciprocal root of the mean square plus epsilon. -/
def rs (x : Fin 4096 → EReal) : EReal :=
  Ideal.rsqrt (Ideal.div (∑ k, x k * x k) (Ideal.ofBits .f32 0x45800000#32) + Ideal.ofBits .f32 0x358637BD#32)

/-- The normalized row times the gain. -/
def hval (x g : Fin 4096 → EReal) (l : Fin 4096) : EReal := x l * rs x * g l

/-- The largest magnitude of the row over 448. -/
def tval (x g : Fin 4096 → EReal) : EReal :=
  Finset.fold max (Ideal.ofBits .f32 0xFF800000#32) (fun k => max (hval x g k) (-(hval x g k))) Finset.univ
    * Ideal.ofBits .f32 0x3B124925#32

/-- The word 0x45800000 is 4096. -/
theorem ofBits_4096 : Ideal.ofBits .f32 0x45800000#32 = ((4096 : ℝ) : EReal) := by
  rw [show (0x45800000#32 : BitVec 32) = word 139 from rfl, ofBits_word (by norm_num)]; norm_num [pw]

/-- The constant added to the mean of squares is a positive real. -/
theorem ofBits_eps : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

/-- The largest finite f32 as a real. -/
theorem ofBits_max : Ideal.ofBits .f32 0x7F7FFFFF#32 = ((16777215 * (2 : ℝ) ^ (104 : ℤ) : ℝ) : EReal) := by
  simp [Ideal.ofBits, Ideal.ieee, -EReal.coe_mul]

/-- The f32 nearest 1/448 as a real. -/
theorem ofBits_inv448 : Ideal.ofBits .f32 0x3B124925#32 = ((9586981 * (2 : ℝ) ^ (-32 : ℤ) : ℝ) : EReal) := by
  simp [Ideal.ofBits, Ideal.ieee, -EReal.coe_mul]

/-- The word 0xFF800000 is minus infinity. -/
theorem ofBits_neginf : Ideal.ofBits .f32 0xFF800000#32 = ⊥ := by
  simp [Ideal.ofBits, Ideal.ieee]

/-- A square is non-negative. -/
theorem mul_self_nonneg' (x : EReal) : 0 ≤ x * x := by
  induction x using EReal.rec with
  | bot => simp
  | top => simp
  | coe r => rw [← EReal.coe_mul]; exact_mod_cast mul_self_nonneg r

/-- A normalized entry is at most 64 in magnitude: it is at most the root of the sum of squares over the root of their mean. -/
theorem norm_bound (x : Fin 4096 → EReal) (l : Fin 4096) : ∃ r : ℝ, x l * rs x = (r : EReal) ∧ |r| ≤ 64 := by
  obtain ⟨e, he, hee⟩ := ofBits_eps
  have hle : x l * x l ≤ ∑ k, x k * x k :=
    Finset.single_le_sum (f := fun k => x k * x k) (fun k _ => mul_self_nonneg' (x k)) (Finset.mem_univ l)
  have h0 : 0 ≤ ∑ k, x k * x k := le_trans (mul_self_nonneg' _) hle
  unfold rs
  rw [ofBits_4096, hee]
  generalize (∑ k, x k * x k) = S at hle h0
  induction S using EReal.rec with
  | bot => exact absurd h0 (by simp)
  | top =>
    refine ⟨0, ?_, by norm_num⟩
    rw [Ideal.div_coe (by norm_num), EReal.top_mul_coe_of_pos (by norm_num), EReal.top_add_coe]
    show x l * 0 = _
    rw [mul_zero]; rfl
  | coe s =>
    have hs : 0 ≤ s := by exact_mod_cast h0
    obtain ⟨a, ha⟩ : ∃ a : ℝ, x l = (a : EReal) := by
      induction hx : x l using EReal.rec with
      | bot => rw [hx] at hle; simp at hle
      | top => rw [hx] at hle; simp at hle
      | coe a => exact ⟨a, rfl⟩
    rw [ha, ← EReal.coe_mul] at hle
    have hle' : a * a ≤ s := EReal.coe_le_coe_iff.mp hle
    have hy : 0 < s * (1 / 4096) + e := by positivity
    rw [Ideal.div_coe (by norm_num), ← EReal.coe_mul, ← EReal.coe_add]
    have hr : Ideal.rsqrt ((s * (1 / 4096) + e : ℝ) : EReal) = (((Real.sqrt (s * (1 / 4096) + e))⁻¹ : ℝ) : EReal) := by
      show (if _ then _ else _) = _
      rw [if_neg (not_lt.mpr hy.le), if_neg hy.ne']
    rw [hr, ha, ← EReal.coe_mul]
    refine ⟨_, rfl, ?_⟩
    have hsq := Real.sqrt_pos.mpr hy
    rw [abs_mul, abs_of_pos (inv_pos.mpr hsq), ← div_eq_mul_inv, div_le_iff₀ hsq]
    refine abs_le_of_sq_le_sq' ?_ (by positivity) |> abs_le.mpr
    rw [mul_pow, Real.sq_sqrt hy.le]
    nlinarith

/-- An entry of magnitude at most a finite number is a real of at most that magnitude. -/
theorem real_of_abs_le {g : EReal} {M : ℝ} (h : max g (-g) ≤ (M : EReal)) : ∃ r : ℝ, g = (r : EReal) ∧ |r| ≤ M := by
  induction g using EReal.rec with
  | bot => simp at h
  | top => simp at h
  | coe r =>
    refine ⟨r, rfl, ?_⟩
    have h1 := le_trans (le_max_left _ _) h
    have h2 := le_trans (le_max_right _ _) h
    rw [← EReal.coe_neg] at h2
    exact abs_le'.mpr ⟨EReal.coe_le_coe_iff.mp h1, EReal.coe_le_coe_iff.mp h2⟩

/-- With a gain of finite entries the largest magnitude over 448 is nonnegative and far below the largest power of two. -/
theorem tval_bounds (x g : Fin 4096 → EReal) (hg : ∀ k, max (g k) (-(g k)) ≤ Ideal.ofBits .f32 0x7F7FFFFF#32) :
    0 ≤ tval x g ∧ tval x g < (pw 253 : EReal) := by
  have hb : ∀ k, ∃ r : ℝ, hval x g k = (r : EReal) ∧ |r| ≤ 64 * (16777215 * (2 : ℝ) ^ (104 : ℤ)) := fun k => by
    obtain ⟨a, ha, ha'⟩ := norm_bound x k
    have hk := hg k
    rw [ofBits_max] at hk
    obtain ⟨b, hb, hb'⟩ := real_of_abs_le hk
    refine ⟨a * b, ?_, ?_⟩
    · rw [hval, ha, hb, EReal.coe_mul]
    · rw [abs_mul]; exact mul_le_mul ha' hb' (abs_nonneg _) (by norm_num)
  have habs : ∀ k, ∃ r : ℝ, max (hval x g k) (-(hval x g k)) = (r : EReal) ∧ 0 ≤ r ∧ r ≤ 64 * (16777215 * (2 : ℝ) ^ (104 : ℤ)) := fun k => by
    obtain ⟨r, hr, hr'⟩ := hb k
    refine ⟨|r|, ?_, abs_nonneg _, hr'⟩
    rw [hr, ← EReal.coe_neg]; exact (EReal.coe_strictMono.monotone.map_max (a := r) (b := -r)).symm
  have hfold : ∃ r : ℝ, Finset.fold max (Ideal.ofBits .f32 0xFF800000#32) (fun k => max (hval x g k) (-(hval x g k))) Finset.univ = (r : EReal)
      ∧ 0 ≤ r ∧ r ≤ 64 * (16777215 * (2 : ℝ) ^ (104 : ℤ)) := by
    have hlo : (0 : EReal) ≤ Finset.fold max (Ideal.ofBits .f32 0xFF800000#32) (fun k => max (hval x g k) (-(hval x g k))) Finset.univ := by
      rw [Finset.le_fold_max]
      right
      obtain ⟨r, hr, h0, _⟩ := habs 0
      refine ⟨0, Finset.mem_univ _, ?_⟩
      rw [hr]; exact_mod_cast h0
    have hhi : Finset.fold max (Ideal.ofBits .f32 0xFF800000#32) (fun k => max (hval x g k) (-(hval x g k))) Finset.univ
        ≤ ((64 * (16777215 * (2 : ℝ) ^ (104 : ℤ)) : ℝ) : EReal) := by
      rw [Finset.fold_max_le]
      refine ⟨by rw [ofBits_neginf]; exact bot_le, fun k _ => ?_⟩
      obtain ⟨r, hr, _, h1⟩ := habs k
      rw [hr]; exact EReal.coe_le_coe_iff.mpr h1
    generalize Finset.fold max (Ideal.ofBits .f32 0xFF800000#32) (fun k => max (hval x g k) (-(hval x g k))) Finset.univ = A at hlo hhi
    induction A using EReal.rec with
    | bot => exact absurd hlo (by simp)
    | top => exact absurd hhi (not_le.mpr (EReal.coe_lt_top _))
    | coe r => exact ⟨r, rfl, by exact_mod_cast hlo, EReal.coe_le_coe_iff.mp hhi⟩
  obtain ⟨r, hr, h0, h1⟩ := hfold
  rw [tval, hr, ofBits_inv448, ← EReal.coe_mul]
  constructor
  · have : 0 ≤ r * (9586981 * (2 : ℝ) ^ (-32 : ℤ)) := by positivity
    exact_mod_cast this
  · rw [EReal.coe_lt_coe_iff]
    refine lt_of_le_of_lt (mul_le_mul_of_nonneg_right h1 (by positivity)) ?_
    rw [pw]; norm_num

/-! ## The quantized row -/

/-- The scale of a row. -/
def scl (x g : Fin 4096 → EReal) : EReal := Ideal.exp2 (expR (tval x g))

/-- A code: the scaled entry clipped to the representable range. -/
def code (x g : Fin 4096 → EReal) (l : Fin 4096) : EReal :=
  min (Ideal.ofBits .f32 0x43E00000#32) (max (Ideal.ofBits .f32 0xC3E00000#32) (hval x g l * Ideal.exp2 (0 - expR (tval x g))))

/-- The searched scale of a row is its scale. -/
theorem scaleK_row (x g : Fin 4096 → EReal) (hg : ∀ k, max (g k) (-(g k)) ≤ Ideal.ofBits .f32 0x7F7FFFFF#32) :
    scaleK (tval x g) = scl x g := (scale_eq (tval_bounds x g hg).1 (tval_bounds x g hg).2).1

/-- The searched inverse of a row is the exponential of the negated exponent. -/
theorem invK_row (x g : Fin 4096 → EReal) (hg : ∀ k, max (g k) (-(g k)) ≤ Ideal.ofBits .f32 0x7F7FFFFF#32) :
    invK (tval x g) = Ideal.exp2 (0 - expR (tval x g)) := (scale_eq (tval_bounds x g hg).1 (tval_bounds x g hg).2).2

end Cert.Num

end
-- ==== Proof.Quant.lean ====
/- The idealized kernel's codes and row scales at the extended reals, index by index. -/
module

public import proofs.«01_k».proof.Proof.Spec
public import proofs.«01_k».proof.Proof.Row
public import Idealize.ShloMosaic.Lib.Pointwise

@[expose] public section

noncomputable section

namespace Cert.KernelIdeal.Quant

open Idealize.ShloMosaic
open Cert.KernelIdeal.Gen Cert.Num

/-- Row `r` of a rank-two array. -/
abbrev row {n : ℕ} (X : (⟨2, ![n, 4096]⟩ : Shape).Idx → EReal) (r : Fin n) : Fin 4096 → EReal := fun k => X (ix2 r k)

/-- A chunk's normalized activations, at an index. -/
theorem pay5_apply (X : Vec Ideal S128x4096 .bf16) (G : Vec Ideal S1x4096 .f32) (r : Fin 128) (l : Fin 4096) :
    k0_pay5 X G (ix2 r l) = hval (row X r) (row G 0) l := by
  unfold k0_pay5
  pointwise
  simp only [hval, rs, row]

/-- A chunk's largest magnitude over 448, at a row. -/
theorem pay6_apply (X : Vec Ideal S128x4096 .bf16) (G : Vec Ideal S1x4096 .f32) (r : Fin 128) :
    k0_pay6 X G (ix2 r 0) = tval (row X r) (row G 0) := by
  unfold k0_pay6
  pointwise
  simp only [pay5_apply, tval, Ideal.absf_def]

/-- One step of the search on whole vectors. -/
def stepV (t : FVec Ideal S128x1 .f32) (e u : IVec S128x1 32) : IVec S128x1 32 :=
  select (cmpf .oge t (bitcastToFloat .f32 (shli u (broadcast S128x1 23#32)))) u e

/-- One step of the search, at a row. -/
theorem stepV_apply (t : FVec Ideal S128x1 .f32) (e : IVec S128x1 32) (b : BitVec 32) (j : S128x1.Idx) :
    stepV t e (addi e (broadcast S128x1 b)) j = step (t j) (e j) b := by
  unfold stepV
  pointwise
  rfl

/-- The search with the bit `b` added. -/
def stepB (t : FVec Ideal S128x1 .f32) (e : IVec S128x1 32) (b : BitVec 32) : IVec S128x1 32 :=
  stepV t e (addi e (broadcast S128x1 b))

/-- The first seven steps of the search, named. -/
theorem search_eq (t : FVec Ideal S128x1 .f32) : Spec.search t =
    stepB t (stepB t (stepB t (stepB t (stepB t (stepB t (stepB t (broadcast S128x1 0#32) 128#32) 64#32) 32#32) 16#32) 8#32) 4#32) 2#32 := rfl

/-- The exponent: the last step of the search, and 255 where the value is not a number. -/
theorem pay12_eq (t : FVec Ideal S128x1 .f32) : k0_pay12 t (Spec.search t) k0_pay11 =
    select (cmpf .one t t) (broadcast S128x1 255#32) (stepB t (Spec.search t) 1#32) := rfl

/-- One step with the bit `b`, at a row. -/
theorem stepB_apply (t : FVec Ideal S128x1 .f32) (e : IVec S128x1 32) (b : BitVec 32) (j : S128x1.Idx) :
    stepB t e b j = step (t j) (e j) b := stepV_apply t e b j

/-- The search's result, at a row. -/
theorem pay12_apply (t : FVec Ideal S128x1 .f32) (j : S128x1.Idx) :
    k0_pay12 t (Spec.search t) k0_pay11 j = expo (t j) := by
  have e : stepB t (Spec.search t) 1#32 j = expo (t j) := by
    rw [search_eq]
    simp only [stepB_apply, expo, broadcast]
  rw [pay12_eq, ← e]
  generalize stepB t (Spec.search t) 1#32 = E
  pointwise
  rw [if_neg (not_not.mpr rfl)]

/-- A selection on an integer's being equal to another. -/
theorem select_eq {α : Type} (a b : BitVec 32) (x y : α) :
    Scalar.select (IntOp.cmpi .eq a b) x y = if a = b then x else y := by
  by_cases h : a = b
  · subst h; simp [Scalar.select, IntOp.cmpi]
  · have : (a == b) = false := beq_eq_false_iff_ne.mpr h
    simp [Scalar.select, IntOp.cmpi, h, this]

/-- A chunk's code is the entry's code. -/
theorem chunkCodes_apply (X : Vec Ideal S128x4096 .bf16) (G : Vec Ideal S1x4096 .f32)
    (hG : ∀ k, max (row G 0 k) (-(row G 0 k)) ≤ Ideal.ofBits .f32 0x7F7FFFFF#32) (r : Fin 128) (l : Fin 4096) :
    Spec.chunkCodes X G (ix2 r l) = code (row X r) (row G 0) l := by
  unfold Spec.chunkCodes k0_pay14 k0_pay13
  pointwise
  simp only [pay12_apply, pay6_apply, pay5_apply, select_eq]
  rw [code, ← invK_row _ _ hG, invK]

/-- A chunk's scale is the row's scale. -/
theorem chunkScale_apply (X : Vec Ideal S128x4096 .bf16) (G : Vec Ideal S1x4096 .f32)
    (hG : ∀ k, max (row G 0 k) (-(row G 0 k)) ≤ Ideal.ofBits .f32 0x7F7FFFFF#32) (r : Fin 128) (l : Fin 128) :
    Spec.chunkScale X G (ix2 r l) = scl (row X r) (row G 0) := by
  unfold Spec.chunkScale k0_pay15 k0_pay13
  pointwise
  simp only [pay12_apply, pay6_apply, select_eq]
  rw [← scaleK_row _ _ hG, scaleK]

end Cert.KernelIdeal.Quant

end
-- ==== Proof.QuantAll.lean ====
/- The idealized kernel's codes and row scales over all rows: the two chunks put together. -/
module

public import proofs.«01_k».proof.Proof.Quant
public import Idealize.ShloMosaic.Lib.Pipeline.Value

@[expose] public section

set_option maxRecDepth 8192

noncomputable section

namespace Cert.KernelIdeal.Quant

open Idealize.ShloMosaic
open Cert.KernelIdeal.Gen Cert.Num

/-- A row index of 256 lies in the lower chunk or in the upper one. -/
theorem mem_chunk {n : ℕ} (o : ℕ) (inb : ∀ a, ![o, 0] a + (⟨2, ![128, n]⟩ : Shape).size a ≤ (⟨2, ![256, n]⟩ : Shape).size a)
    (r : Fin 256) (l : Fin n) (h1 : o ≤ r.val) (h2 : r.val < o + 128) :
    ix2 r l ∈ (Rect.unit (s := ⟨2, ![256, n]⟩) ![o, 0] (⟨2, ![128, n]⟩ : Shape).size inb).set := by
  rw [Rect.mem_set_unit]
  intro a
  match a with
  | ⟨0, _⟩ => exact ⟨h1, h2⟩
  | ⟨1, _⟩ => exact ⟨Nat.zero_le _, by show l.val < 0 + n; have := l.isLt; omega⟩

/-- Where the element of a chunk lies in the whole. -/
theorem emb_chunk {n : ℕ} (o : ℕ) (inb : ∀ a, ![o, 0] a + (⟨2, ![128, n]⟩ : Shape).size a ≤ (⟨2, ![256, n]⟩ : Shape).size a)
    (h : o ≤ 128) (r : Fin 128) (l : Fin n) :
    (Rect.unit (s := ⟨2, ![256, n]⟩) ![o, 0] (⟨2, ![128, n]⟩ : Shape).size inb).emb (ix2 r l) = ix2 ⟨o + r.val, by omega⟩ l := by
  funext a
  apply Fin.ext
  match a with
  | ⟨0, _⟩ => show o + 1 * r.val = o + r.val; omega
  | ⟨1, _⟩ => show 0 + 1 * l.val = l.val; omega

/-- Every index of a rank-two array is a pair. -/
theorem eta2 {a b : ℕ} (x : (⟨2, ![a, b]⟩ : Shape).Idx) : x = ix2 (x 0 : Fin a) (x 1 : Fin b) := by
  funext i
  match i with
  | ⟨0, _⟩ => rfl
  | ⟨1, _⟩ => rfl

/-- A row of the upper chunk is the whole's row 128 further. -/
theorem row_xHi (X : Vec Ideal S256x4096 .bf16) (r : Fin 128) : row (Spec.xHi X) r = row X ⟨128 + r.val, by omega⟩ :=
  funext fun k => congrArg X (emb_chunk 128 _ (by norm_num) r k)

/-- A row of the lower chunk is the whole's. -/
theorem row_xLo (X : Vec Ideal S256x4096 .bf16) (r : Fin 128) : row (Spec.xLo X) r = row X ⟨0 + r.val, by omega⟩ :=
  funext fun k => congrArg X (emb_chunk 0 _ (by norm_num) r k)

/-- The codes of the upper chunk agree with the row-wise codes. -/
theorem codesHi (X : Vec Ideal S256x4096 .bf16) (G : Vec Ideal S1x4096 .f32)
    (hG : ∀ k, max (row G 0 k) (-(row G 0 k)) ≤ Ideal.ofBits .f32 0x7F7FFFFF#32) (x : S128x4096.Idx) :
    Spec.chunkCodes (Spec.xHi X) G x = (fun y => code (row X (y 0)) (row G 0) (y 1) : S256x4096.Idx → EReal)
      ((Rect.unit (s := S256x4096) ![128, 0] S128x4096.size inb_S256x4096_S128x4096_128_0).emb x) := by
  obtain ⟨r, l, rfl⟩ : ∃ (r : Fin 128) (l : Fin 4096), x = ix2 r l := ⟨x 0, x 1, eta2 x⟩
  rw [emb_chunk 128 inb_S256x4096_S128x4096_128_0 (by norm_num) r l, chunkCodes_apply _ G hG, row_xHi]
  rfl

/-- The codes of the lower chunk agree with the row-wise codes. -/
theorem codesLo (X : Vec Ideal S256x4096 .bf16) (G : Vec Ideal S1x4096 .f32)
    (hG : ∀ k, max (row G 0 k) (-(row G 0 k)) ≤ Ideal.ofBits .f32 0x7F7FFFFF#32) (x : S128x4096.Idx) :
    Spec.chunkCodes (Spec.xLo X) G x = (fun y => code (row X (y 0)) (row G 0) (y 1) : S256x4096.Idx → EReal)
      ((Rect.unit (s := S256x4096) ![0, 0] S128x4096.size inb_S256x4096_S128x4096_0_0).emb x) := by
  obtain ⟨r, l, rfl⟩ : ∃ (r : Fin 128) (l : Fin 4096), x = ix2 r l := ⟨x 0, x 1, eta2 x⟩
  rw [emb_chunk 0 inb_S256x4096_S128x4096_0_0 (by norm_num) r l, chunkCodes_apply _ G hG, row_xLo]
  rfl

/-- The scale of each row, repeated along 128. -/
def sclAll (X : Vec Ideal S256x4096 .bf16) (G : Vec Ideal S1x4096 .f32) : S256x128.Idx → EReal :=
  fun y => scl (row X (y 0)) (row G 0)

/-- The scales of the upper chunk agree with the row-wise scales. -/
theorem scaleHi (X : Vec Ideal S256x4096 .bf16) (G : Vec Ideal S1x4096 .f32)
    (hG : ∀ k, max (row G 0 k) (-(row G 0 k)) ≤ Ideal.ofBits .f32 0x7F7FFFFF#32) (x : S128x128.Idx) :
    Spec.chunkScale (Spec.xHi X) G x = sclAll X G
      ((Rect.unit (s := S256x128) ![128, 0] S128x128.size inb_S256x128_S128x128_128_0).emb x) := by
  obtain ⟨r, l, rfl⟩ : ∃ (r : Fin 128) (l : Fin 128), x = ix2 r l := ⟨x 0, x 1, eta2 x⟩
  rw [emb_chunk 128 inb_S256x128_S128x128_128_0 (by norm_num) r l, chunkScale_apply _ G hG, row_xHi]
  rfl

/-- The scales of the lower chunk agree with the row-wise scales. -/
theorem scaleLo (X : Vec Ideal S256x4096 .bf16) (G : Vec Ideal S1x4096 .f32)
    (hG : ∀ k, max (row G 0 k) (-(row G 0 k)) ≤ Ideal.ofBits .f32 0x7F7FFFFF#32) (x : S128x128.Idx) :
    Spec.chunkScale (Spec.xLo X) G x = sclAll X G
      ((Rect.unit (s := S256x128) ![0, 0] S128x128.size inb_S256x128_S128x128_0_0).emb x) := by
  obtain ⟨r, l, rfl⟩ : ∃ (r : Fin 128) (l : Fin 128), x = ix2 r l := ⟨x 0, x 1, eta2 x⟩
  rw [emb_chunk 0 inb_S256x128_S128x128_0_0 (by norm_num) r l, chunkScale_apply _ G hG, row_xLo]
  rfl

/-- Two chunks of a [256, 128] array that agree with one function. -/
theorem pieces_scale (f g : S128x128.Idx → EReal) (H : S256x128.Idx → EReal)
    (hf : ∀ x, f x = H ((Rect.unit (s := S256x128) ![128, 0] S128x128.size inb_S256x128_S128x128_128_0).emb x))
    (hg : ∀ x, g x = H ((Rect.unit (s := S256x128) ![0, 0] S128x128.size inb_S256x128_S128x128_0_0).emb x)) :
    ∀ p ∈ ([⟨Rect.unit (s := S256x128) ![128, 0] S128x128.size inb_S256x128_S128x128_128_0, f⟩,
        ⟨Rect.unit (s := S256x128) ![0, 0] S128x128.size inb_S256x128_S128x128_0_0, g⟩] :
        List (View.Piece (Elt Ideal) S256x128 .f32)), ∀ x, p.2 x = H (p.1.emb x) := by
  intro p hp
  rcases List.mem_cons.mp hp with h | hp
  · rw [h]
    exact hf
  · rw [List.mem_singleton.mp hp]
    exact hg

/-- The kernel's codes, index by index. -/
theorem codes_apply (X : Vec Ideal S256x4096 .bf16) (G : Vec Ideal S1x4096 .f32)
    (hG : ∀ k, max (row G 0 k) (-(row G 0 k)) ≤ Ideal.ofBits .f32 0x7F7FFFFF#32) (r : Fin 256) (l : Fin 4096) :
    Spec.codes X G (ix2 r l) = code (row X r) (row G 0) l := by
  refine View.canon_apply_of_pieces (fun y => code (row X (y 0)) (row G 0) (y 1)) (Spec.codesL X G) ?_ (ix2 r l) ?_
  · intro p hp
    simp only [Spec.codesL, List.mem_cons, List.not_mem_nil, or_false] at hp
    rcases hp with rfl | rfl
    · exact codesHi X G hG
    · exact codesLo X G hG
  · by_cases h : 128 ≤ r.val
    · exact ⟨_, List.Mem.head _, mem_chunk 128 inb_S256x4096_S128x4096_128_0 r l h (by omega)⟩
    · exact ⟨_, List.Mem.tail _ (List.Mem.head _), mem_chunk 0 inb_S256x4096_S128x4096_0_0 r l (by omega) (by omega)⟩

/-- The kernel's row scales, index by index. -/
theorem rowscale_apply (X : Vec Ideal S256x4096 .bf16) (G : Vec Ideal S1x4096 .f32)
    (hG : ∀ k, max (row G 0 k) (-(row G 0 k)) ≤ Ideal.ofBits .f32 0x7F7FFFFF#32) (r : Fin 256) (l : Fin 128) :
    Spec.rowscale X G (ix2 r l) = scl (row X r) (row G 0) := by
  refine View.canon_apply_of_pieces (sclAll X G) (Spec.rowscaleL X G) ?_ (ix2 r l) ?_
  · exact pieces_scale _ _ _ (scaleHi X G hG) (scaleLo X G hG)
  · by_cases h : 128 ≤ r.val
    · exact ⟨_, List.Mem.head _, mem_chunk 128 inb_S256x128_S128x128_128_0 r l h (by omega)⟩
    · exact ⟨_, List.Mem.tail _ (List.Mem.head _), mem_chunk 0 inb_S256x128_S128x128_0_0 r l (by omega) (by omega)⟩

end Cert.KernelIdeal.Quant

end
-- ==== Proof.Head.lean ====
/- One head of the attention inputs at the extended reals: the projected row, scaled, and its rotation. -/
module

public import proofs.«01_k».proof.Proof.Row

@[expose] public section

noncomputable section

namespace Cert.Num

open Idealize.ShloMosaic
open scoped BigOperators

/-- A projected entry: the codes times a weight column, times the row's scale and the column's. -/
def proj (x g : Fin 4096 → EReal) (w : Fin 4096 → Fin 2304 → EReal) (s : Fin 2304 → EReal) (c : Fin 2304) : EReal :=
  (∑ k, code x g k * w k c) * scl x g * s c

/-- A rotated head: `y` the head's 128 entries, `p` the position, `q` the frequencies. -/
def rot (y : Fin 128 → EReal) (p : EReal) (q : Fin 64 → EReal) (l : Fin 128) : EReal :=
  if h : l.val < 64 then
    y l * Ideal.cos (p * q ⟨l.val, h⟩) - y ⟨64 + l.val, by omega⟩ * Ideal.sin (p * q ⟨l.val, h⟩)
  else
    y l * Ideal.cos (p * q ⟨l.val - 64, by omega⟩) + y ⟨l.val - 64, by omega⟩ * Ideal.sin (p * q ⟨l.val - 64, by omega⟩)

/-- The 128 projected entries from column `o` on. -/
def part (x g : Fin 4096 → EReal) (w : Fin 4096 → Fin 2304 → EReal) (s : Fin 2304 → EReal) (o : Fin 2177) (l : Fin 128) : EReal :=
  proj x g w s ⟨o.val + l.val, by omega⟩

/-- The rotation written as the entry times the cosine plus the entry half a head away times the sine, negated in
    the first half. -/
theorem rot_eq (y : Fin 128 → EReal) (p : EReal) (q : Fin 64 → EReal) (l : Fin 128) :
    y l * Ideal.cos (p * q ⟨l.val % 64, Nat.mod_lt _ (by norm_num)⟩)
      + y ⟨(l.val + 128 - 64) % 128, Nat.mod_lt _ (by norm_num)⟩
        * (if l.val < 64 then 0 - Ideal.sin (p * q ⟨l.val % 64, Nat.mod_lt _ (by norm_num)⟩)
            else Ideal.sin (p * q ⟨l.val % 64, Nat.mod_lt _ (by norm_num)⟩)) = rot y p q l := by
  unfold rot
  by_cases h : l.val < 64
  · rw [if_pos h, dif_pos h]
    have e1 : (⟨l.val % 64, Nat.mod_lt _ (by norm_num)⟩ : Fin 64) = ⟨l.val, h⟩ := Fin.ext (Nat.mod_eq_of_lt h)
    have e2 : (⟨(l.val + 128 - 64) % 128, Nat.mod_lt _ (by norm_num)⟩ : Fin 128) = ⟨64 + l.val, by omega⟩ :=
      Fin.ext (by show (l.val + 128 - 64) % 128 = 64 + l.val; omega)
    rw [e1, e2, zero_sub, mul_neg, sub_eq_add_neg]
  · rw [if_neg h, dif_neg h]
    have hl := l.isLt
    have e1 : (⟨l.val % 64, Nat.mod_lt _ (by norm_num)⟩ : Fin 64) = ⟨l.val - 64, by omega⟩ :=
      Fin.ext (by show l.val % 64 = l.val - 64; omega)
    have e2 : (⟨(l.val + 128 - 64) % 128, Nat.mod_lt _ (by norm_num)⟩ : Fin 128) = ⟨l.val - 64, by omega⟩ :=
      Fin.ext (by show (l.val + 128 - 64) % 128 = l.val - 64; omega)
    rw [e1, e2]

/-- An index below 64 in a 32-bit word. -/
theorem select_lt_64 {α : Type} (l : Fin 128) (x y : α) :
    Scalar.select (IntOp.cmpi .slt (BitVec.ofNat 32 l.val) 64#32) x y = if l.val < 64 then x else y := by
  have key : ∀ l : Fin 128, IntOp.cmpi .slt (BitVec.ofNat 32 l.val) 64#32 = if l.val < 64 then 1#1 else 0#1 := by decide
  rw [key]
  by_cases h : l.val < 64
  · rw [if_pos h, if_pos h]; rfl
  · rw [if_neg h, if_neg h]; rfl

end Cert.Num

end
-- ==== Proof.KernelOut.lean ====
/- The idealized kernel's five results at the extended reals, index by index. -/
module

public import proofs.«01_k».proof.Proof.QuantAll
public import proofs.«01_k».proof.Proof.Head
public import proofs.«01_k».proof.Proof.Launch

@[expose] public section

set_option maxRecDepth 8192

noncomputable section

namespace Cert.KernelIdeal.Quant

open Idealize.ShloMosaic
open Cert.KernelIdeal.Gen Cert.Num

/-- A slab read at an index is the weight at the shifted column. -/
theorem slab_apply (W : Vec Ideal S4096x2304 .fp8e4m3) (j : Fin 9) (k : Fin 4096) (c : Fin 256) :
    Spec.slab W j (ix3 0 k c) = W (ix2 k ⟨256 * j.val + c.val, by omega⟩) := rfl

/-- The 128 scales from column `o` on, read at an index. -/
theorem wsAt_apply (S : Vec Ideal S1x2304 .f32) (o : Fin 2177) (l : Fin 128) :
    Spec.wsAt S o (ix2 0 l) = S (ix2 0 ⟨o.val + l.val, by omega⟩) := rfl

/-- The table of cosines at an index: the cosine of the position times the frequency. -/
theorem cosT_apply (P : Vec Ideal S1x256 .i32) (Q : Vec Ideal S1x128 .f32) (r : Fin 256) (l : Fin 128) :
    Spec.cosT P Q (ix2 r l) = Ideal.cos (FloatOps.sitofp (F := Ideal) .f32 (P (ix2 0 r)) * Q (ix2 0 l)) := by
  unfold Spec.cosT k0_pay3 k0_pay1
  pointwise

/-- The table of sines at an index: the sine, negated in the first 64 columns. -/
theorem sinT_apply (P : Vec Ideal S1x256 .i32) (Q : Vec Ideal S1x128 .f32) (r : Fin 256) (l : Fin 128) :
    Spec.sinT P Q (ix2 r l) = if l.val < 64 then 0 - Ideal.sin (FloatOps.sitofp (F := Ideal) .f32 (P (ix2 0 r)) * Q (ix2 0 l))
      else Ideal.sin (FloatOps.sitofp (F := Ideal) .f32 (P (ix2 0 r)) * Q (ix2 0 l)) := by
  unfold Spec.sinT k0_pay4 k0_pay2 k0_pay1
  pointwise
  exact select_lt_64 l _ _

/-- The gain's entries are finite. -/
def Fine (G : Vec Ideal S1x4096 .f32) : Prop := ∀ k, max (row G 0 k) (-(row G 0 k)) ≤ Ideal.ofBits .f32 0x7F7FFFFF#32

/-- The weight as a table, and the weight scales as a row. -/
abbrev tbl (W : Vec Ideal S4096x2304 .fp8e4m3) : Fin 4096 → Fin 2304 → EReal := fun k c => W (ix2 k c)
/-- The weight scales as a row. -/
abbrev wsc (S : Vec Ideal S1x2304 .f32) : Fin 2304 → EReal := fun c => S (ix2 0 c)

variable (X : Vec Ideal S256x4096 .bf16) (G : Vec Ideal S1x4096 .f32) (W : Vec Ideal S4096x2304 .fp8e4m3)
  (S : Vec Ideal S1x2304 .f32) (P : Vec Ideal S1x256 .i32) (Q : Vec Ideal S1x128 .f32)

/-- The kernel's scales, as one row. -/
theorem scaleV_apply (hG : Fine G) (r : Fin 256) : Spec.scaleV X G (ix2 0 r) = scl (row X r) (row G 0) := by
  unfold Spec.scaleV k0_pay27
  pointwise
  exact rowscale_apply X G hG r 0

/-- The kernel's value head. -/
theorem vV_apply (hG : Fine G) (r : Fin 256) (l : Fin 128) :
    Spec.vV X G W S (ix2 r l) = part (row X r) (row G 0) (tbl W) (wsc S) 2176 l := by
  unfold Spec.vV k0_pay61 k0_pay59
  pointwise
  simp only [codes_apply X G hG, rowscale_apply X G hG, slab_apply, wsAt_apply]
  have e : (⟨256 * ((8 : Fin 9) : ℕ) + (128 + l.val), by show 256 * 8 + (128 + l.val) < 2304; omega⟩ : Fin 2304)
      = ⟨((2176 : Fin 2177) : ℕ) + l.val, by show 2176 + l.val < 2304; omega⟩ :=
    Fin.ext (by show 256 * 8 + (128 + l.val) = 2176 + l.val; omega)
  rw [e]
  rfl

/-- The kernel's key head. -/
theorem kV_apply (hG : Fine G) (q : Fin 64 → EReal) (hQ : ∀ l : Fin 128, Q (ix2 0 l) = q ⟨l.val % 64, Nat.mod_lt _ (by norm_num)⟩)
    (r : Fin 256) (l : Fin 128) :
    Spec.kV X G W S P Q (ix2 r l)
      = rot (part (row X r) (row G 0) (tbl W) (wsc S) 2048) (FloatOps.sitofp (F := Ideal) .f32 (P (ix2 0 r))) q l := by
  unfold Spec.kV k0_pay60 k0_pay59
  pointwise
  simp only [codes_apply X G hG, rowscale_apply X G hG, slab_apply, wsAt_apply, cosT_apply, sinT_apply, hQ]
  rw [← rot_eq]
  rfl

/-- The kernel's two query heads of a slab. -/
theorem qPair_apply (hG : Fine G) (q : Fin 64 → EReal) (hQ : ∀ l : Fin 128, Q (ix2 0 l) = q ⟨l.val % 64, Nat.mod_lt _ (by norm_num)⟩)
    (j : Fin 8) (r : Fin 256) (p : Fin 2) (l : Fin 128) :
    Spec.qPair X G W S P Q ⟨j.val, by omega⟩ (ix3 r p l)
      = rot (part (row X r) (row G 0) (tbl W) (wsc S) ⟨256 * j.val + 128 * p.val, by omega⟩)
          (FloatOps.sitofp (F := Ideal) .f32 (P (ix2 0 r))) q l := by
  unfold Spec.qPair k0_pay28
  pointwise
  simp only [codes_apply X G hG, rowscale_apply X G hG, slab_apply, wsAt_apply, cosT_apply, sinT_apply, hQ]
  rw [← rot_eq]
  have hj := j.isLt
  have e (k : Fin 128) : (⟨256 * j.val + (128 + k.val), by omega⟩ : Fin 2304) = ⟨256 * j.val + 128 * 1 + k.val, by omega⟩ :=
    Fin.ext (by show 256 * j.val + (128 + k.val) = 256 * j.val + 128 * 1 + k.val; omega)
  have e1 := e l
  have e2 := e ⟨(l.val + 128 - 64) % 128, Nat.mod_lt _ (by norm_num)⟩
  match p with
  | ⟨0, _⟩ => rw [if_pos (show 0 % 2 = 0 from rfl)]; rfl
  | ⟨1, _⟩ =>
    rw [if_neg (show ¬1 % 2 = 0 by decide)]
    simp only [] at e1 e2
    rw [e1, e2]
    rfl

/-- The query heads, index by index. -/
def heads (q : Fin 64 → EReal) : S256x16x128.Idx → EReal := fun y =>
  rot (part (row X (y 0)) (row G 0) (tbl W) (wsc S)
      ⟨128 * (y 1 : Fin 16).val, by have h : (y 1).val < 16 := (y 1).isLt; omega⟩)
    (FloatOps.sitofp (F := Ideal) .f32 (P (ix2 0 (y 0)))) q (y 2)

/-- A pair of query heads is the matching pair of rows of all heads. -/
theorem heads_emb (hG : Fine G) (q : Fin 64 → EReal) (hQ : ∀ l : Fin 128, Q (ix2 0 l) = q ⟨l.val % 64, Nat.mod_lt _ (by norm_num)⟩)
    (j : Fin 8) (o : ℕ) (ho : o = 2 * j.val) (inb : ∀ a, ![0, o, 0] a + S256x2x128.size a ≤ S256x16x128.size a) (x : S256x2x128.Idx) :
    Spec.qPair X G W S P Q ⟨j.val, by omega⟩ x
      = heads X G W S P q ((Rect.unit (s := S256x16x128) ![0, o, 0] S256x2x128.size inb).emb x) := by
  obtain ⟨r, p, l, rfl⟩ : ∃ (r : Fin 256) (p : Fin 2) (l : Fin 128), x = ix3 r p l := by
    refine ⟨x 0, x 1, x 2, ?_⟩
    funext i
    match i with
    | ⟨0, _⟩ => rfl
    | ⟨1, _⟩ => rfl
    | ⟨2, _⟩ => rfl
  have e : (Rect.unit (s := S256x16x128) ![0, o, 0] S256x2x128.size inb).emb (ix3 r p l)
      = ix3 r (⟨o + p.val, by omega⟩ : Fin 16) l := by
    funext a
    apply Fin.ext
    match a with
    | ⟨0, _⟩ => show 0 + 1 * r.val = r.val; omega
    | ⟨1, _⟩ => show o + 1 * p.val = o + p.val; omega
    | ⟨2, _⟩ => show 0 + 1 * l.val = l.val; omega
  rw [e, qPair_apply X G W S P Q hG q hQ j r p l]
  have e' : (⟨256 * j.val + 128 * p.val, by omega⟩ : Fin 2177) = ⟨128 * (o + p.val), by omega⟩ :=
    Fin.ext (by show 256 * j.val + 128 * p.val = 128 * (o + p.val); omega)
  rw [e']
  rfl

/-- Eight pairs that agree with one function. -/
theorem pieces_heads (f0 f1 f2 f3 f4 f5 f6 f7 : S256x2x128.Idx → EReal) (H : S256x16x128.Idx → EReal)
    (h7 : ∀ x, f7 x = H ((Rect.unit (s := S256x16x128) ![0, 14, 0] S256x2x128.size inb_S256x16x128_S256x2x128_0_14_0).emb x))
    (h6 : ∀ x, f6 x = H ((Rect.unit (s := S256x16x128) ![0, 12, 0] S256x2x128.size inb_S256x16x128_S256x2x128_0_12_0).emb x))
    (h5 : ∀ x, f5 x = H ((Rect.unit (s := S256x16x128) ![0, 10, 0] S256x2x128.size inb_S256x16x128_S256x2x128_0_10_0).emb x))
    (h4 : ∀ x, f4 x = H ((Rect.unit (s := S256x16x128) ![0, 8, 0] S256x2x128.size inb_S256x16x128_S256x2x128_0_8_0).emb x))
    (h3 : ∀ x, f3 x = H ((Rect.unit (s := S256x16x128) ![0, 6, 0] S256x2x128.size inb_S256x16x128_S256x2x128_0_6_0).emb x))
    (h2 : ∀ x, f2 x = H ((Rect.unit (s := S256x16x128) ![0, 4, 0] S256x2x128.size inb_S256x16x128_S256x2x128_0_4_0).emb x))
    (h1 : ∀ x, f1 x = H ((Rect.unit (s := S256x16x128) ![0, 2, 0] S256x2x128.size inb_S256x16x128_S256x2x128_0_2_0).emb x))
    (h0 : ∀ x, f0 x = H ((Rect.unit (s := S256x16x128) ![0, 0, 0] S256x2x128.size inb_S256x16x128_S256x2x128_0_0_0).emb x)) :
    ∀ p ∈ ([⟨Rect.unit (s := S256x16x128) ![0, 14, 0] S256x2x128.size inb_S256x16x128_S256x2x128_0_14_0, f7⟩,
        ⟨Rect.unit (s := S256x16x128) ![0, 12, 0] S256x2x128.size inb_S256x16x128_S256x2x128_0_12_0, f6⟩,
        ⟨Rect.unit (s := S256x16x128) ![0, 10, 0] S256x2x128.size inb_S256x16x128_S256x2x128_0_10_0, f5⟩,
        ⟨Rect.unit (s := S256x16x128) ![0, 8, 0] S256x2x128.size inb_S256x16x128_S256x2x128_0_8_0, f4⟩,
        ⟨Rect.unit (s := S256x16x128) ![0, 6, 0] S256x2x128.size inb_S256x16x128_S256x2x128_0_6_0, f3⟩,
        ⟨Rect.unit (s := S256x16x128) ![0, 4, 0] S256x2x128.size inb_S256x16x128_S256x2x128_0_4_0, f2⟩,
        ⟨Rect.unit (s := S256x16x128) ![0, 2, 0] S256x2x128.size inb_S256x16x128_S256x2x128_0_2_0, f1⟩,
        ⟨Rect.unit (s := S256x16x128) ![0, 0, 0] S256x2x128.size inb_S256x16x128_S256x2x128_0_0_0, f0⟩] :
        List (View.Piece (Elt Ideal) S256x16x128 .bf16)), ∀ x, p.2 x = H (p.1.emb x) := by
  intro p hp
  rcases List.mem_cons.mp hp with h | hp
  · rw [h]; exact h7
  rcases List.mem_cons.mp hp with h | hp
  · rw [h]; exact h6
  rcases List.mem_cons.mp hp with h | hp
  · rw [h]; exact h5
  rcases List.mem_cons.mp hp with h | hp
  · rw [h]; exact h4
  rcases List.mem_cons.mp hp with h | hp
  · rw [h]; exact h3
  rcases List.mem_cons.mp hp with h | hp
  · rw [h]; exact h2
  rcases List.mem_cons.mp hp with h | hp
  · rw [h]; exact h1
  · rw [List.mem_singleton.mp hp]; exact h0

/-- The kernel's query heads. -/
theorem qV_apply (hG : Fine G) (q : Fin 64 → EReal) (hQ : ∀ l : Fin 128, Q (ix2 0 l) = q ⟨l.val % 64, Nat.mod_lt _ (by norm_num)⟩)
    (r : Fin 256) (n : Fin 16) (l : Fin 128) :
    Spec.qV X G W S P Q (ix3 r n l)
      = rot (part (row X r) (row G 0) (tbl W) (wsc S) ⟨128 * n.val, by omega⟩)
          (FloatOps.sitofp (F := Ideal) .f32 (P (ix2 0 r))) q l := by
  refine View.canon_apply_of_pieces (heads X G W S P q) (Spec.qL X G W S P Q) ?_ (ix3 r n l) (Run.cover_q X G W S P Q _)
  exact pieces_heads _ _ _ _ _ _ _ _ _ (heads_emb X G W S P Q hG q hQ 7 14 rfl _) (heads_emb X G W S P Q hG q hQ 6 12 rfl _)
    (heads_emb X G W S P Q hG q hQ 5 10 rfl _) (heads_emb X G W S P Q hG q hQ 4 8 rfl _) (heads_emb X G W S P Q hG q hQ 3 6 rfl _)
    (heads_emb X G W S P Q hG q hQ 2 4 rfl _) (heads_emb X G W S P Q hG q hQ 1 2 rfl _) (heads_emb X G W S P Q hG q hQ 0 0 rfl _)

end Cert.KernelIdeal.Quant

end
-- ==== Proof.RefQuant.lean ====
/- The idealized reference's codes and row scales at the extended reals, index by index. -/
module

public import proofs.«01_k».proof.Proof.RefRun
public import proofs.«01_k».proof.Proof.Head
public import Idealize.ShloMosaic.Lib.Pointwise

@[expose] public section

set_option maxRecDepth 8192

noncomputable section

namespace Cert.ReferenceIdeal.Quant

open Idealize.ShloMosaic
open Cert.ReferenceIdeal.Gen Cert.Num

/-- Row `r` of an array with rows of 4096. -/
abbrev row {n : ℕ} (X : (⟨2, ![n, 4096]⟩ : Shape).Idx → EReal) (r : Fin n) : Fin 4096 → EReal := fun k => X (ix2 r k)

/-- The weight as a table, the weight scales as a row, and the frequencies as a row. -/
abbrev tbl (W : Vec Ideal S4096x2304 .fp8e4m3) : Fin 4096 → Fin 2304 → EReal := fun k c => W (ix2 k c)
/-- The weight scales as a row. -/
abbrev wsc (S : Vec Ideal S1x2304 .f32) : Fin 2304 → EReal := fun c => S (ix2 0 c)
/-- The frequencies as a row. -/
abbrev frq (Q : Vec Ideal S1x64 .f32) : Fin 64 → EReal := fun i => Q (ix2 0 i)

variable (X : Vec Ideal S256x4096 .bf16) (G : Vec Ideal S1x4096 .f32) (W : Vec Ideal S4096x2304 .fp8e4m3)
  (S : Vec Ideal S1x2304 .f32) (P : Vec Ideal S256x1 .i32) (Q : Vec Ideal S1x64 .f32)

/-- The normalized activations. -/
theorem pay4_apply (r : Fin 256) (l : Fin 4096) : k0_pay4 X G (ix2 r l) = hval (row X r) (row G 0) l := by
  unfold k0_pay4
  pointwise
  unfold hval rs
  with_reducible rfl

/-- The power of two at the extended reals. -/
theorem exp2_def (z : EReal) : FloatOps.exp2 (F := Ideal) (φ := .f32) z = Idealize.ShloMosaic.Ideal.exp2 z := rfl

/-- The exponent of each row. -/
theorem pay5_apply (r : Fin 256) : k0_pay5 X G (ix2 r 0) = expR (tval (row X r) (row G 0)) := by
  unfold k0_pay5
  pointwise
  simp only [Ideal.absf_def, pay4_apply]
  have e : tval (row X r) (row G 0) = Finset.fold max (Ideal.ofBits .f32 0xFF800000#32)
      (fun k => max (hval (row X r) (row G 0) k) (-(hval (row X r) (row G 0) k))) Finset.univ * Ideal.ofBits .f32 0x3B124925#32 := by
    unfold tval
    with_reducible rfl
  rw [← e]
  generalize tval (row X r) (row G 0) = t
  unfold expR flush
  rw [ofBits_one, EReal.coe_one]

/-- The reference's row scales. -/
theorem scale_apply (r : Fin 256) : Run.scale X G (ix2 r 0) = scl (row X r) (row G 0) := by
  unfold Run.scale k0_pay6
  pointwise
  rw [pay5_apply, exp2_def]
  unfold scl
  with_reducible rfl

/-- The reference's codes. -/
theorem codes_apply (r : Fin 256) (l : Fin 4096) :
    Run.codes X G (ix2 r l) = code (row X r) (row G 0) l := by
  unfold Run.codes Run.scaled Run.lowest k0_pay8 k0_pay7
  pointwise
  simp only [pay4_apply, pay5_apply]
  unfold code
  rw [exp2_def]

end Cert.ReferenceIdeal.Quant

end
-- ==== Proof.RefOut.lean ====
/- The idealized reference's five results at the extended reals, index by index. -/
module

public import proofs.«01_k».proof.Proof.RefQuant

@[expose] public section

set_option maxRecDepth 8192

noncomputable section

namespace Cert.ReferenceIdeal.Quant

open Idealize.ShloMosaic
open Cert.ReferenceIdeal.Gen Cert.Num

variable (X : Vec Ideal S256x4096 .bf16) (G : Vec Ideal S1x4096 .f32) (W : Vec Ideal S4096x2304 .fp8e4m3)
  (S : Vec Ideal S1x2304 .f32) (P : Vec Ideal S256x1 .i32) (Q : Vec Ideal S1x64 .f32)

/-- The rotation of a part, its columns spelled with any offset `o`. -/
theorem rot_part (x g : Fin 4096 → EReal) (w : Fin 4096 → Fin 2304 → EReal) (s : Fin 2304 → EReal) (p : EReal) (q : Fin 64 → EReal)
    (o : Fin 2177) (o' : ℕ) (ho : o' = o.val) (l : Fin 128) :
    (if h : l.val < 64 then
      proj x g w s ⟨o' + l.val, by omega⟩ * Ideal.cos (p * q ⟨l.val, h⟩)
        - proj x g w s ⟨o' + (64 + l.val), by omega⟩ * Ideal.sin (p * q ⟨l.val, h⟩)
     else
      proj x g w s ⟨o' + (64 + (l.val - 64)), by omega⟩ * Ideal.cos (p * q ⟨l.val - 64, by omega⟩)
        + proj x g w s ⟨o' + (l.val - 64), by omega⟩ * Ideal.sin (p * q ⟨l.val - 64, by omega⟩))
      = rot (part x g w s o) p q l := by
  subst ho
  unfold rot part
  by_cases h : l.val < 64
  · rw [dif_pos h, dif_pos h]
  · rw [dif_neg h, dif_neg h]
    have e : (⟨o.val + (64 + (l.val - 64)), by omega⟩ : Fin 2304) = ⟨o.val + l.val, by omega⟩ := Fin.ext (by show _ + _ = _ + _; omega)
    rw [e]

/-- The reference's projected entries. -/
theorem pay9_apply (r : Fin 256) (c : Fin 2304) :
    k0_pay9 (Run.scale X G) (Run.scaled X G) Run.lowest W S (ix2 r c)
      = proj (row X r) (row G 0) (tbl W) (wsc S) c := by
  have h := codes_apply X G r
  unfold Run.codes at h
  unfold k0_pay9
  pointwise
  simp only [h, scale_apply]
  rfl

/-- The reference's value head. -/
theorem vV_apply (r : Fin 256) (l : Fin 128) :
    Run.vV X G W S (ix2 r l) = part (row X r) (row G 0) (tbl W) (wsc S) 2176 l := by
  unfold Run.vV k0_pay2 k0_pay11
  pointwise
  simp only [pay9_apply]
  unfold part
  exact congrArg _ (Fin.ext (show 2176 + l.val = ((2176 : Fin 2177) : ℕ) + l.val from rfl))

/-- The reference's scales, as one row. -/
theorem scaleV_apply (r : Fin 256) : Run.scaleV X G (ix2 0 r) = scl (row X r) (row G 0) := by
  unfold Run.scaleV k0_pay3
  pointwise
  exact scale_apply X G r

/-- The reference's key head. -/
theorem kV_apply (r : Fin 256) (l : Fin 128) :
    Run.kV X G W S P Q (ix2 r l)
      = rot (part (row X r) (row G 0) (tbl W) (wsc S) 2048) (FloatOps.sitofp (F := Ideal) .f32 (P (ix2 r 0))) (frq Q) l := by
  unfold Run.kV k0_pay1 k0_pay16 k0_pay17 k0_pay18 k0_pay19 k0_pay17 k0_pay16 k0_pay13 k0_pay14 k0_pay12 k0_pay10
  pointwise
  simp only [pay9_apply]
  exact rot_part _ _ _ _ _ (frq Q) 2048 2048 rfl l

/-- The reference's query heads. -/
theorem qV_apply (r : Fin 256) (n : Fin 16) (l : Fin 128) :
    Run.qV X G W S P Q (ix3 r n l)
      = rot (part (row X r) (row G 0) (tbl W) (wsc S) ⟨128 * n.val, by omega⟩)
          (FloatOps.sitofp (F := Ideal) .f32 (P (ix2 r 0))) (frq Q) l := by
  unfold Run.qV k0_pay15 k0_pay13 k0_pay14 k0_pay12
  pointwise
  simp only [pay9_apply]
  exact rot_part _ _ _ _ _ (frq Q) ⟨128 * n.val, by omega⟩ (n.val * 128) (Nat.mul_comm _ _) l

end Cert.ReferenceIdeal.Quant

end
-- ==== Proof.Equal.lean ====
/- The results of the idealized kernel and of the idealized reference are equal. -/
module

public import proofs.«01_k».proof.Proof.Host
public import proofs.«01_k».proof.Proof.KernelOut
public import proofs.«01_k».proof.Proof.RefOut

@[expose] public section

set_option maxRecDepth 8192

noncomputable section

namespace Cert.Proof

open Idealize.ShloMosaic Cert.Num

/-- Every index of a rank-two array is a pair, and of a rank-three array a triple. -/
theorem eta_2 {a b : ℕ} (x : (⟨2, ![a, b]⟩ : Shape).Idx) : ∃ (r : Fin a) (l : Fin b), x = ix2 r l :=
  ⟨x 0, x 1, funext fun i => match i with | ⟨0, _⟩ => rfl | ⟨1, _⟩ => rfl⟩
/-- Every index of a rank-three array is a triple. -/
theorem eta_3 {a b c : ℕ} (x : (⟨3, ![a, b, c]⟩ : Shape).Idx) : ∃ (r : Fin a) (n : Fin b) (l : Fin c), x = ix3 r n l :=
  ⟨x 0, x 1, x 2, funext fun i => match i with | ⟨0, _⟩ => rfl | ⟨1, _⟩ => rfl | ⟨2, _⟩ => rfl⟩

variable (X : Vec Ideal Cert.KernelIdeal.S256x4096 .bf16) (G : Vec Ideal Cert.KernelIdeal.S1x4096 .f32)
  (W : Vec Ideal Cert.KernelIdeal.S4096x2304 .fp8e4m3) (S : Vec Ideal Cert.KernelIdeal.S1x2304 .f32)
  (P : Vec Ideal Cert.KernelIdeal.S1x256 .i32) (Q : Vec Ideal Cert.KernelIdeal.S1x128 .f32)
  (P' : Vec Ideal Cert.ReferenceIdeal.S256x1 .i32) (Q' : Vec Ideal Cert.ReferenceIdeal.S1x64 .f32)

/-- The codes are equal. -/
theorem codes_eq (hG : Cert.KernelIdeal.Quant.Fine G) :
    (Cert.ReferenceIdeal.Run.codes (F := Ideal) X G : Vec Ideal Cert.KernelIdeal.S256x4096 .fp8e4m3) = Cert.KernelIdeal.Spec.codes X G := by
  funext y
  obtain ⟨r, l, rfl⟩ := eta_2 y
  exact (Cert.ReferenceIdeal.Quant.codes_apply X G r l).trans (Cert.KernelIdeal.Quant.codes_apply X G hG r l).symm

/-- The row scales are equal. -/
theorem scaleV_eq (hG : Cert.KernelIdeal.Quant.Fine G) :
    (Cert.ReferenceIdeal.Run.scaleV (F := Ideal) X G : Vec Ideal Cert.KernelIdeal.S1x256 .f32) = Cert.KernelIdeal.Spec.scaleV X G := by
  funext y
  obtain ⟨r, l, rfl⟩ := eta_2 y
  obtain rfl : r = 0 := Subsingleton.elim _ _
  exact (Cert.ReferenceIdeal.Quant.scaleV_apply X G l).trans (Cert.KernelIdeal.Quant.scaleV_apply X G hG l).symm

/-- The value heads are equal. -/
theorem vV_eq (hG : Cert.KernelIdeal.Quant.Fine G) :
    (Cert.ReferenceIdeal.Run.vV (F := Ideal) X G W S : Vec Ideal Cert.KernelIdeal.S256x128 .bf16) = Cert.KernelIdeal.Spec.vV X G W S := by
  funext y
  obtain ⟨r, l, rfl⟩ := eta_2 y
  exact (Cert.ReferenceIdeal.Quant.vV_apply X G W S r l).trans (Cert.KernelIdeal.Quant.vV_apply X G W S hG r l).symm

section
variable (hG : Cert.KernelIdeal.Quant.Fine G) (hP : ∀ r : Fin 256, P' (ix2 r 0) = P (ix2 0 r))
  (hQ : ∀ l : Fin 128, Q (ix2 0 l) = Cert.ReferenceIdeal.Quant.frq Q' ⟨l.val % 64, Nat.mod_lt _ (by norm_num)⟩)
include hG hP hQ

/-- The key heads are equal. -/
theorem kV_eq : (Cert.ReferenceIdeal.Run.kV (F := Ideal) X G W S P' Q' : Vec Ideal Cert.KernelIdeal.S256x128 .bf16)
    = Cert.KernelIdeal.Spec.kV X G W S P Q := by
  funext y
  obtain ⟨r, l, rfl⟩ := eta_2 y
  refine (Cert.ReferenceIdeal.Quant.kV_apply X G W S P' Q' r l).trans ?_
  rw [hP r]
  exact (Cert.KernelIdeal.Quant.kV_apply X G W S P Q hG (Cert.ReferenceIdeal.Quant.frq Q') hQ r l).symm

/-- The query heads are equal. -/
theorem qV_eq : (Cert.ReferenceIdeal.Run.qV (F := Ideal) X G W S P' Q' : Vec Ideal Cert.KernelIdeal.S256x16x128 .bf16)
    = Cert.KernelIdeal.Spec.qV X G W S P Q := by
  funext y
  obtain ⟨r, n, l, rfl⟩ := eta_3 y
  refine (Cert.ReferenceIdeal.Quant.qV_apply X G W S P' Q' r n l).trans ?_
  rw [hP r]
  exact (Cert.KernelIdeal.Quant.qV_apply X G W S P Q hG (Cert.ReferenceIdeal.Quant.frq Q') hQ r n l).symm
end

end Cert.Proof

end
-- ==== Proof.lean ====
module

public import proofs.«01_k».proof.Defs
public import proofs.«01_k».proof.Proof.KernelFrame
public import proofs.«01_k».proof.Proof.Equal
public import proofs.«01_k».proof.Proof.Gen.Kernel
public import proofs.«01_k».proof.Proof.Gen.KernelIdeal
public import proofs.«01_k».proof.Proof.Gen.ReferenceIdeal
public import proofs.«01_k».proof.Proof.Gen.Pre_gain_in_range
public import Idealize.ShloMosaic.Lib.Bf16Pair

@[expose] public section

noncomputable section

namespace Cert.Proof

open Idealize.ShloMosaic Idealize.ShloMosaic.TcCoe Idealize.SL.Sem

/-- The idealized kernel and the idealized reference end with equal results, at every gain of finite magnitude. -/
theorem algebraic : Cert.algebraic_KernelIdeal_ReferenceIdeal_pre_gain_in_range (hKernelIdeal := Cert.KernelIdeal.Gen.facts)
    (hReferenceIdeal := Cert.ReferenceIdeal.Gen.facts) (hPre_gain_in_range := Cert.Pre_gain_in_range.Gen.facts) := by
  intro m g m' g' hpre hargs
  have hG (c : Dev Cert.KernelIdeal.nD) : Cert.KernelIdeal.Quant.Fine (Cert.KernelIdeal.Run.opG m c) :=
    fun k => gain_of_pre m c hpre k
  refine ⟨_, _, _, _, _, Cert.KernelIdeal.Run.run_values m g, ?_⟩
  refine (θ_run Cert.ReferenceIdeal.defs _ _).mono (fun r h c => ?_) (Cert.ReferenceIdeal.Run.run_values m' g')
  obtain ⟨h0, h1, h2, h3, h4, hrest⟩ := h c
  obtain ⟨a0, a1, a2, a3, a4⟩ := hargs c
  have eX := opX_eq m m' c a0
  have eG := opG_eq m m' c a1
  have eW := opW_eq m m' c a2
  have eS := opS_eq m m' c a3
  refine ⟨h0.trans ?_, h1.trans ?_, h2.trans ?_, h3.trans ?_, h4.trans ?_, hrest⟩
  · rw [eX, eG, eW, eS]
    exact qV_eq _ _ _ _ _ _ _ _ (hG c) (opP_eq m m' c a4) (opQ_eq m m' c)
  · rw [eX, eG, eW, eS]
    exact kV_eq _ _ _ _ _ _ _ _ (hG c) (opP_eq m m' c a4) (opQ_eq m m' c)
  · rw [eX, eG, eW, eS]
    exact vV_eq _ _ _ _ (hG c)
  · rw [eX, eG]
    exact codes_eq _ _ (hG c)
  · rw [eX, eG]
    exact scaleV_eq _ _ (hG c)

/-- All the claims. -/
theorem claim : Cert.Claim := ⟨Cert.Kernel.Gen.facts, Cert.KernelIdeal.Gen.facts, Cert.ReferenceIdeal.Gen.facts, Cert.Pre_gain_in_range.Gen.facts,
  fun m ρ _ => Cert.Kernel.Run.frame m ρ,
  fun m ρ _ => Cert.KernelIdeal.Run.frame m ρ,
  fun m ρ _ => Cert.KernelIdeal.Run.frame m ρ,
  fun m ρ _ => Cert.ReferenceIdeal.Gen.frame m ρ,
  fun m ρ _ => Cert.ReferenceIdeal.Gen.frame m ρ,
  ⟨IdealRules.bf16_pair.packStatement _, IdealRules.bf16_pair.statement _ _⟩,
  algebraic⟩

end Cert.Proof

end
